-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![8192, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![8192, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S31x1x256 : Shape := ⟨3, ![31, 1, 256]⟩
abbrev S1x256 : Shape := ⟨2, ![1, 256]⟩
abbrev S31 : Shape := ⟨1, ![31]⟩
abbrev S_ : Shape := ⟨0, ![]⟩
abbrev S128x256 : Shape := ⟨2, ![128, 256]⟩
abbrev S64x256 : Shape := ⟨2, ![64, 256]⟩
abbrev S32x256 : Shape := ⟨2, ![32, 256]⟩
abbrev S16x256 : Shape := ⟨2, ![16, 256]⟩
abbrev S8x256 : Shape := ⟨2, ![8, 256]⟩
abbrev S4x256 : Shape := ⟨2, ![4, 256]⟩
abbrev S2x256 : Shape := ⟨2, ![2, 256]⟩
abbrev S1 : Shape := ⟨1, ![1]⟩
abbrev S1x1x256 : Shape := ⟨3, ![1, 1, 256]⟩
abbrev S31x256 : Shape := ⟨2, ![31, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .bf16⟩
  | .hbm, ⟨1, _⟩ => ⟨S256x256, .f32⟩
  | .local _ .vmem, ⟨0, _⟩ => ⟨S256x256, .bf16⟩
  | .local _ .vmem, ⟨1, _⟩ => ⟨S256x256, .f32⟩
  | .local _ .vmem, ⟨2, _⟩ => ⟨S31x1x256, .f32⟩
  | .local _ .vmem, ⟨3, _⟩ => ⟨S1x256, .f32⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_315 : BitVec 32 := 0#32
  let c0_i32_313 : BitVec 32 := 0#32
  let c1_i32_314 : BitVec 32 := 1#32
  let v591 : BitVec 32 := Scalar.muli c0_i32_313 c1_i32_314
  let v592 : BitVec 32 := Scalar.addi c0_i32_315 v591
  v592.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_315 : BitVec 32 := 0#32
  let c1_i32_313 : BitVec 32 := 1#32
  let c1_i32_314 : BitVec 32 := 1#32
  let v591 : BitVec 32 := Scalar.muli c1_i32_313 c1_i32_314
  let v592 : BitVec 32 := Scalar.addi c0_i32_315 v591
  v592.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_315 : BitVec 32 := 0#32
  let c2_i32_313 : BitVec 32 := 2#32
  let c1_i32_314 : BitVec 32 := 1#32
  let v591 : BitVec 32 := Scalar.muli c2_i32_313 c1_i32_314
  let v592 : BitVec 32 := Scalar.addi c0_i32_315 v591
  v592.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_315 : BitVec 32 := 0#32
  let c3_i32_313 : BitVec 32 := 3#32
  let c1_i32_314 : BitVec 32 := 1#32
  let v591 : BitVec 32 := Scalar.muli c3_i32_313 c1_i32_314
  let v592 : BitVec 32 := Scalar.addi c0_i32_315 v591
  v592.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_315 : BitVec 32 := 0#32
  let c4_i32_313 : BitVec 32 := 4#32
  let c1_i32_314 : BitVec 32 := 1#32
  let v591 : BitVec 32 := Scalar.muli c4_i32_313 c1_i32_314
  let v592 : BitVec 32 := Scalar.addi c0_i32_315 v591
  v592.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_315 : BitVec 32 := 0#32
  let c5_i32_313 : BitVec 32 := 5#32
  let c1_i32_314 : BitVec 32 := 1#32
  let v591 : BitVec 32 := Scalar.muli c5_i32_313 c1_i32_314
  let v592 : BitVec 32 := Scalar.addi c0_i32_315 v591
  v592.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_315 : BitVec 32 := 0#32
  let c6_i32_313 : BitVec 32 := 6#32
  let c1_i32_314 : BitVec 32 := 1#32
  let v591 : BitVec 32 := Scalar.muli c6_i32_313 c1_i32_314
  let v592 : BitVec 32 := Scalar.addi c0_i32_315 v591
  v592.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_315 : BitVec 32 := 0#32
  let c7_i32_313 : BitVec 32 := 7#32
  let c1_i32_314 : BitVec 32 := 1#32
  let v591 : BitVec 32 := Scalar.muli c7_i32_313 c1_i32_314
  let v592 : BitVec 32 := Scalar.addi c0_i32_315 v591
  v592.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_315 : BitVec 32 := 0#32
  let c8_i32_313 : BitVec 32 := 8#32
  let c1_i32_314 : BitVec 32 := 1#32
  let v591 : BitVec 32 := Scalar.muli c8_i32_313 c1_i32_314
  let v592 : BitVec 32 := Scalar.addi c0_i32_315 v591
  v592.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_315 : BitVec 32 := 0#32
  let c9_i32_313 : BitVec 32 := 9#32
  let c1_i32_314 : BitVec 32 := 1#32
  let v591 : BitVec 32 := Scalar.muli c9_i32_313 c1_i32_314
  let v592 : BitVec 32 := Scalar.addi c0_i32_315 v591
  v592.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_315 : BitVec 32 := 0#32
  let c10_i32_313 : BitVec 32 := 10#32
  let c1_i32_314 : BitVec 32 := 1#32
  let v591 : BitVec 32 := Scalar.muli c10_i32_313 c1_i32_314
  let v592 : BitVec 32 := Scalar.addi c0_i32_315 v591
  v592.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_315 : BitVec 32 := 0#32
  let c11_i32_313 : BitVec 32 := 11#32
  let c1_i32_314 : BitVec 32 := 1#32
  let v591 : BitVec 32 := Scalar.muli c11_i32_313 c1_i32_314
  let v592 : BitVec 32 := Scalar.addi c0_i32_315 v591
  v592.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_315 : BitVec 32 := 0#32
  let c12_i32_313 : BitVec 32 := 12#32
  let c1_i32_314 : BitVec 32 := 1#32
  let v591 : BitVec 32 := Scalar.muli c12_i32_313 c1_i32_314
  let v592 : BitVec 32 := Scalar.addi c0_i32_315 v591
  v592.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_315 : BitVec 32 := 0#32
  let c13_i32_313 : BitVec 32 := 13#32
  let c1_i32_314 : BitVec 32 := 1#32
  let v591 : BitVec 32 := Scalar.muli c13_i32_313 c1_i32_314
  let v592 : BitVec 32 := Scalar.addi c0_i32_315 v591
  v592.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_315 : BitVec 32 := 0#32
  let c14_i32_313 : BitVec 32 := 14#32
  let c1_i32_314 : BitVec 32 := 1#32
  let v591 : BitVec 32 := Scalar.muli c14_i32_313 c1_i32_314
  let v592 : BitVec 32 := Scalar.addi c0_i32_315 v591
  v592.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_315 : BitVec 32 := 0#32
  let c15_i32_313 : BitVec 32 := 15#32
  let c1_i32_314 : BitVec 32 := 1#32
  let v591 : BitVec 32 := Scalar.muli c15_i32_313 c1_i32_314
  let v592 : BitVec 32 := Scalar.addi c0_i32_315 v591
  v592.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_315 : BitVec 32 := 0#32
  let c16_i32_313 : BitVec 32 := 16#32
  let c1_i32_314 : BitVec 32 := 1#32
  let v591 : BitVec 32 := Scalar.muli c16_i32_313 c1_i32_314
  let v592 : BitVec 32 := Scalar.addi c0_i32_315 v591
  v592.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_315 : BitVec 32 := 0#32
  let c17_i32_313 : BitVec 32 := 17#32
  let c1_i32_314 : BitVec 32 := 1#32
  let v591 : BitVec 32 := Scalar.muli c17_i32_313 c1_i32_314
  let v592 : BitVec 32 := Scalar.addi c0_i32_315 v591
  v592.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_315 : BitVec 32 := 0#32
  let c18_i32_313 : BitVec 32 := 18#32
  let c1_i32_314 : BitVec 32 := 1#32
  let v591 : BitVec 32 := Scalar.muli c18_i32_313 c1_i32_314
  let v592 : BitVec 32 := Scalar.addi c0_i32_315 v591
  v592.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_315 : BitVec 32 := 0#32
  let c19_i32_313 : BitVec 32 := 19#32
  let c1_i32_314 : BitVec 32 := 1#32
  let v591 : BitVec 32 := Scalar.muli c19_i32_313 c1_i32_314
  let v592 : BitVec 32 := Scalar.addi c0_i32_315 v591
  v592.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_315 : BitVec 32 := 0#32
  let c20_i32_313 : BitVec 32 := 20#32
  let c1_i32_314 : BitVec 32 := 1#32
  let v591 : BitVec 32 := Scalar.muli c20_i32_313 c1_i32_314
  let v592 : BitVec 32 := Scalar.addi c0_i32_315 v591
  v592.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_315 : BitVec 32 := 0#32
  let c21_i32_313 : BitVec 32 := 21#32
  let c1_i32_314 : BitVec 32 := 1#32
  let v591 : BitVec 32 := Scalar.muli c21_i32_313 c1_i32_314
  let v592 : BitVec 32 := Scalar.addi c0_i32_315 v591
  v592.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_315 : BitVec 32 := 0#32
  let c22_i32_313 : BitVec 32 := 22#32
  let c1_i32_314 : BitVec 32 := 1#32
  let v591 : BitVec 32 := Scalar.muli c22_i32_313 c1_i32_314
  let v592 : BitVec 32 := Scalar.addi c0_i32_315 v591
  v592.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_315 : BitVec 32 := 0#32
  let c23_i32_313 : BitVec 32 := 23#32
  let c1_i32_314 : BitVec 32 := 1#32
  let v591 : BitVec 32 := Scalar.muli c23_i32_313 c1_i32_314
  let v592 : BitVec 32 := Scalar.addi c0_i32_315 v591
  v592.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_315 : BitVec 32 := 0#32
  let c24_i32_313 : BitVec 32 := 24#32
  let c1_i32_314 : BitVec 32 := 1#32
  let v591 : BitVec 32 := Scalar.muli c24_i32_313 c1_i32_314
  let v592 : BitVec 32 := Scalar.addi c0_i32_315 v591
  v592.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_315 : BitVec 32 := 0#32
  let c25_i32_313 : BitVec 32 := 25#32
  let c1_i32_314 : BitVec 32 := 1#32
  let v591 : BitVec 32 := Scalar.muli c25_i32_313 c1_i32_314
  let v592 : BitVec 32 := Scalar.addi c0_i32_315 v591
  v592.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_315 : BitVec 32 := 0#32
  let c26_i32_313 : BitVec 32 := 26#32
  let c1_i32_314 : BitVec 32 := 1#32
  let v591 : BitVec 32 := Scalar.muli c26_i32_313 c1_i32_314
  let v592 : BitVec 32 := Scalar.addi c0_i32_315 v591
  v592.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_315 : BitVec 32 := 0#32
  let c27_i32_313 : BitVec 32 := 27#32
  let c1_i32_314 : BitVec 32 := 1#32
  let v591 : BitVec 32 := Scalar.muli c27_i32_313 c1_i32_314
  let v592 : BitVec 32 := Scalar.addi c0_i32_315 v591
  v592.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_315 : BitVec 32 := 0#32
  let c28_i32_313 : BitVec 32 := 28#32
  let c1_i32_314 : BitVec 32 := 1#32
  let v591 : BitVec 32 := Scalar.muli c28_i32_313 c1_i32_314
  let v592 : BitVec 32 := Scalar.addi c0_i32_315 v591
  v592.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_315 : BitVec 32 := 0#32
  let c29_i32_313 : BitVec 32 := 29#32
  let c1_i32_314 : BitVec 32 := 1#32
  let v591 : BitVec 32 := Scalar.muli c29_i32_313 c1_i32_314
  let v592 : BitVec 32 := Scalar.addi c0_i32_315 v591
  v592.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_315 : BitVec 32 := 0#32
  let c30_i32_313 : BitVec 32 := 30#32
  let c1_i32_314 : BitVec 32 := 1#32
  let v591 : BitVec 32 := Scalar.muli c30_i32_313 c1_i32_314
  let v592 : BitVec 32 := Scalar.addi c0_i32_315 v591
  v592.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_315 : BitVec 32 := 0#32
  let c31_i32_313 : BitVec 32 := 31#32
  let c1_i32_314 : BitVec 32 := 1#32
  let v591 : BitVec 32 := Scalar.muli c31_i32_313 c1_i32_314
  let v592 : BitVec 32 := Scalar.addi c0_i32_315 v591
  v592.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_58 : BitVec 32 := 1#32
  let v179 : BitVec 32 := Scalar.addi v2 c1_i32_58
  let c32_i32_59 : BitVec 32 := 32#32
  let v180 : BitVec 1 := Scalar.cmpi .slt v179 c32_i32_59
  let v181 : BitVec 32 := Scalar.extui v180
  let c0_i32_60 : BitVec 32 := 0#32
  let v182 : BitVec 1 := Scalar.cmpi .ne v181 c0_i32_60
  v182

def k0_dev33 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_312 : BitVec 32 := 1#32
  let v591 : BitVec 32 := Scalar.addi v2 c1_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_61 : BitVec 32 := 2#32
  let v183 : BitVec 32 := Scalar.addi v2 c2_i32_61
  let c32_i32_62 : BitVec 32 := 32#32
  let v184 : BitVec 1 := Scalar.cmpi .slt v183 c32_i32_62
  let v185 : BitVec 32 := Scalar.extui v184
  let c0_i32_63 : BitVec 32 := 0#32
  let v186 : BitVec 1 := Scalar.cmpi .ne v185 c0_i32_63
  v186

def k0_dev34 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_312 : BitVec 32 := 2#32
  let v591 : BitVec 32 := Scalar.addi v2 c2_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_64 : BitVec 32 := 3#32
  let v187 : BitVec 32 := Scalar.addi v2 c3_i32_64
  let c32_i32_65 : BitVec 32 := 32#32
  let v188 : BitVec 1 := Scalar.cmpi .slt v187 c32_i32_65
  let v189 : BitVec 32 := Scalar.extui v188
  let c0_i32_66 : BitVec 32 := 0#32
  let v190 : BitVec 1 := Scalar.cmpi .ne v189 c0_i32_66
  v190

def k0_dev35 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_312 : BitVec 32 := 3#32
  let v591 : BitVec 32 := Scalar.addi v2 c3_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_67 : BitVec 32 := 4#32
  let v191 : BitVec 32 := Scalar.addi v2 c4_i32_67
  let c32_i32_68 : BitVec 32 := 32#32
  let v192 : BitVec 1 := Scalar.cmpi .slt v191 c32_i32_68
  let v193 : BitVec 32 := Scalar.extui v192
  let c0_i32_69 : BitVec 32 := 0#32
  let v194 : BitVec 1 := Scalar.cmpi .ne v193 c0_i32_69
  v194

def k0_dev36 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_312 : BitVec 32 := 4#32
  let v591 : BitVec 32 := Scalar.addi v2 c4_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_70 : BitVec 32 := 5#32
  let v195 : BitVec 32 := Scalar.addi v2 c5_i32_70
  let c32_i32_71 : BitVec 32 := 32#32
  let v196 : BitVec 1 := Scalar.cmpi .slt v195 c32_i32_71
  let v197 : BitVec 32 := Scalar.extui v196
  let c0_i32_72 : BitVec 32 := 0#32
  let v198 : BitVec 1 := Scalar.cmpi .ne v197 c0_i32_72
  v198

def k0_dev37 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_312 : BitVec 32 := 5#32
  let v591 : BitVec 32 := Scalar.addi v2 c5_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_73 : BitVec 32 := 6#32
  let v199 : BitVec 32 := Scalar.addi v2 c6_i32_73
  let c32_i32_74 : BitVec 32 := 32#32
  let v200 : BitVec 1 := Scalar.cmpi .slt v199 c32_i32_74
  let v201 : BitVec 32 := Scalar.extui v200
  let c0_i32_75 : BitVec 32 := 0#32
  let v202 : BitVec 1 := Scalar.cmpi .ne v201 c0_i32_75
  v202

def k0_dev38 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_312 : BitVec 32 := 6#32
  let v591 : BitVec 32 := Scalar.addi v2 c6_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_76 : BitVec 32 := 7#32
  let v203 : BitVec 32 := Scalar.addi v2 c7_i32_76
  let c32_i32_77 : BitVec 32 := 32#32
  let v204 : BitVec 1 := Scalar.cmpi .slt v203 c32_i32_77
  let v205 : BitVec 32 := Scalar.extui v204
  let c0_i32_78 : BitVec 32 := 0#32
  let v206 : BitVec 1 := Scalar.cmpi .ne v205 c0_i32_78
  v206

def k0_dev39 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_312 : BitVec 32 := 7#32
  let v591 : BitVec 32 := Scalar.addi v2 c7_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_79 : BitVec 32 := 8#32
  let v207 : BitVec 32 := Scalar.addi v2 c8_i32_79
  let c32_i32_80 : BitVec 32 := 32#32
  let v208 : BitVec 1 := Scalar.cmpi .slt v207 c32_i32_80
  let v209 : BitVec 32 := Scalar.extui v208
  let c0_i32_81 : BitVec 32 := 0#32
  let v210 : BitVec 1 := Scalar.cmpi .ne v209 c0_i32_81
  v210

def k0_dev40 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_312 : BitVec 32 := 8#32
  let v591 : BitVec 32 := Scalar.addi v2 c8_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_82 : BitVec 32 := 9#32
  let v211 : BitVec 32 := Scalar.addi v2 c9_i32_82
  let c32_i32_83 : BitVec 32 := 32#32
  let v212 : BitVec 1 := Scalar.cmpi .slt v211 c32_i32_83
  let v213 : BitVec 32 := Scalar.extui v212
  let c0_i32_84 : BitVec 32 := 0#32
  let v214 : BitVec 1 := Scalar.cmpi .ne v213 c0_i32_84
  v214

def k0_dev41 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_312 : BitVec 32 := 9#32
  let v591 : BitVec 32 := Scalar.addi v2 c9_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_85 : BitVec 32 := 10#32
  let v215 : BitVec 32 := Scalar.addi v2 c10_i32_85
  let c32_i32_86 : BitVec 32 := 32#32
  let v216 : BitVec 1 := Scalar.cmpi .slt v215 c32_i32_86
  let v217 : BitVec 32 := Scalar.extui v216
  let c0_i32_87 : BitVec 32 := 0#32
  let v218 : BitVec 1 := Scalar.cmpi .ne v217 c0_i32_87
  v218

def k0_dev42 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_312 : BitVec 32 := 10#32
  let v591 : BitVec 32 := Scalar.addi v2 c10_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_88 : BitVec 32 := 11#32
  let v219 : BitVec 32 := Scalar.addi v2 c11_i32_88
  let c32_i32_89 : BitVec 32 := 32#32
  let v220 : BitVec 1 := Scalar.cmpi .slt v219 c32_i32_89
  let v221 : BitVec 32 := Scalar.extui v220
  let c0_i32_90 : BitVec 32 := 0#32
  let v222 : BitVec 1 := Scalar.cmpi .ne v221 c0_i32_90
  v222

def k0_dev43 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_312 : BitVec 32 := 11#32
  let v591 : BitVec 32 := Scalar.addi v2 c11_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_91 : BitVec 32 := 12#32
  let v223 : BitVec 32 := Scalar.addi v2 c12_i32_91
  let c32_i32_92 : BitVec 32 := 32#32
  let v224 : BitVec 1 := Scalar.cmpi .slt v223 c32_i32_92
  let v225 : BitVec 32 := Scalar.extui v224
  let c0_i32_93 : BitVec 32 := 0#32
  let v226 : BitVec 1 := Scalar.cmpi .ne v225 c0_i32_93
  v226

def k0_dev44 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_312 : BitVec 32 := 12#32
  let v591 : BitVec 32 := Scalar.addi v2 c12_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_94 : BitVec 32 := 13#32
  let v227 : BitVec 32 := Scalar.addi v2 c13_i32_94
  let c32_i32_95 : BitVec 32 := 32#32
  let v228 : BitVec 1 := Scalar.cmpi .slt v227 c32_i32_95
  let v229 : BitVec 32 := Scalar.extui v228
  let c0_i32_96 : BitVec 32 := 0#32
  let v230 : BitVec 1 := Scalar.cmpi .ne v229 c0_i32_96
  v230

def k0_dev45 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_312 : BitVec 32 := 13#32
  let v591 : BitVec 32 := Scalar.addi v2 c13_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_97 : BitVec 32 := 14#32
  let v231 : BitVec 32 := Scalar.addi v2 c14_i32_97
  let c32_i32_98 : BitVec 32 := 32#32
  let v232 : BitVec 1 := Scalar.cmpi .slt v231 c32_i32_98
  let v233 : BitVec 32 := Scalar.extui v232
  let c0_i32_99 : BitVec 32 := 0#32
  let v234 : BitVec 1 := Scalar.cmpi .ne v233 c0_i32_99
  v234

def k0_dev46 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_312 : BitVec 32 := 14#32
  let v591 : BitVec 32 := Scalar.addi v2 c14_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_100 : BitVec 32 := 15#32
  let v235 : BitVec 32 := Scalar.addi v2 c15_i32_100
  let c32_i32_101 : BitVec 32 := 32#32
  let v236 : BitVec 1 := Scalar.cmpi .slt v235 c32_i32_101
  let v237 : BitVec 32 := Scalar.extui v236
  let c0_i32_102 : BitVec 32 := 0#32
  let v238 : BitVec 1 := Scalar.cmpi .ne v237 c0_i32_102
  v238

def k0_dev47 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_312 : BitVec 32 := 15#32
  let v591 : BitVec 32 := Scalar.addi v2 c15_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_103 : BitVec 32 := 16#32
  let v239 : BitVec 32 := Scalar.addi v2 c16_i32_103
  let c32_i32_104 : BitVec 32 := 32#32
  let v240 : BitVec 1 := Scalar.cmpi .slt v239 c32_i32_104
  let v241 : BitVec 32 := Scalar.extui v240
  let c0_i32_105 : BitVec 32 := 0#32
  let v242 : BitVec 1 := Scalar.cmpi .ne v241 c0_i32_105
  v242

def k0_dev48 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_312 : BitVec 32 := 16#32
  let v591 : BitVec 32 := Scalar.addi v2 c16_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_106 : BitVec 32 := 17#32
  let v243 : BitVec 32 := Scalar.addi v2 c17_i32_106
  let c32_i32_107 : BitVec 32 := 32#32
  let v244 : BitVec 1 := Scalar.cmpi .slt v243 c32_i32_107
  let v245 : BitVec 32 := Scalar.extui v244
  let c0_i32_108 : BitVec 32 := 0#32
  let v246 : BitVec 1 := Scalar.cmpi .ne v245 c0_i32_108
  v246

def k0_dev49 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_312 : BitVec 32 := 17#32
  let v591 : BitVec 32 := Scalar.addi v2 c17_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_109 : BitVec 32 := 18#32
  let v247 : BitVec 32 := Scalar.addi v2 c18_i32_109
  let c32_i32_110 : BitVec 32 := 32#32
  let v248 : BitVec 1 := Scalar.cmpi .slt v247 c32_i32_110
  let v249 : BitVec 32 := Scalar.extui v248
  let c0_i32_111 : BitVec 32 := 0#32
  let v250 : BitVec 1 := Scalar.cmpi .ne v249 c0_i32_111
  v250

def k0_dev50 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_312 : BitVec 32 := 18#32
  let v591 : BitVec 32 := Scalar.addi v2 c18_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_112 : BitVec 32 := 19#32
  let v251 : BitVec 32 := Scalar.addi v2 c19_i32_112
  let c32_i32_113 : BitVec 32 := 32#32
  let v252 : BitVec 1 := Scalar.cmpi .slt v251 c32_i32_113
  let v253 : BitVec 32 := Scalar.extui v252
  let c0_i32_114 : BitVec 32 := 0#32
  let v254 : BitVec 1 := Scalar.cmpi .ne v253 c0_i32_114
  v254

def k0_dev51 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_312 : BitVec 32 := 19#32
  let v591 : BitVec 32 := Scalar.addi v2 c19_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_115 : BitVec 32 := 20#32
  let v255 : BitVec 32 := Scalar.addi v2 c20_i32_115
  let c32_i32_116 : BitVec 32 := 32#32
  let v256 : BitVec 1 := Scalar.cmpi .slt v255 c32_i32_116
  let v257 : BitVec 32 := Scalar.extui v256
  let c0_i32_117 : BitVec 32 := 0#32
  let v258 : BitVec 1 := Scalar.cmpi .ne v257 c0_i32_117
  v258

def k0_dev52 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_312 : BitVec 32 := 20#32
  let v591 : BitVec 32 := Scalar.addi v2 c20_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_118 : BitVec 32 := 21#32
  let v259 : BitVec 32 := Scalar.addi v2 c21_i32_118
  let c32_i32_119 : BitVec 32 := 32#32
  let v260 : BitVec 1 := Scalar.cmpi .slt v259 c32_i32_119
  let v261 : BitVec 32 := Scalar.extui v260
  let c0_i32_120 : BitVec 32 := 0#32
  let v262 : BitVec 1 := Scalar.cmpi .ne v261 c0_i32_120
  v262

def k0_dev53 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_312 : BitVec 32 := 21#32
  let v591 : BitVec 32 := Scalar.addi v2 c21_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_121 : BitVec 32 := 22#32
  let v263 : BitVec 32 := Scalar.addi v2 c22_i32_121
  let c32_i32_122 : BitVec 32 := 32#32
  let v264 : BitVec 1 := Scalar.cmpi .slt v263 c32_i32_122
  let v265 : BitVec 32 := Scalar.extui v264
  let c0_i32_123 : BitVec 32 := 0#32
  let v266 : BitVec 1 := Scalar.cmpi .ne v265 c0_i32_123
  v266

def k0_dev54 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_312 : BitVec 32 := 22#32
  let v591 : BitVec 32 := Scalar.addi v2 c22_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_124 : BitVec 32 := 23#32
  let v267 : BitVec 32 := Scalar.addi v2 c23_i32_124
  let c32_i32_125 : BitVec 32 := 32#32
  let v268 : BitVec 1 := Scalar.cmpi .slt v267 c32_i32_125
  let v269 : BitVec 32 := Scalar.extui v268
  let c0_i32_126 : BitVec 32 := 0#32
  let v270 : BitVec 1 := Scalar.cmpi .ne v269 c0_i32_126
  v270

def k0_dev55 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_312 : BitVec 32 := 23#32
  let v591 : BitVec 32 := Scalar.addi v2 c23_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_127 : BitVec 32 := 24#32
  let v271 : BitVec 32 := Scalar.addi v2 c24_i32_127
  let c32_i32_128 : BitVec 32 := 32#32
  let v272 : BitVec 1 := Scalar.cmpi .slt v271 c32_i32_128
  let v273 : BitVec 32 := Scalar.extui v272
  let c0_i32_129 : BitVec 32 := 0#32
  let v274 : BitVec 1 := Scalar.cmpi .ne v273 c0_i32_129
  v274

def k0_dev56 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_312 : BitVec 32 := 24#32
  let v591 : BitVec 32 := Scalar.addi v2 c24_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_130 : BitVec 32 := 25#32
  let v275 : BitVec 32 := Scalar.addi v2 c25_i32_130
  let c32_i32_131 : BitVec 32 := 32#32
  let v276 : BitVec 1 := Scalar.cmpi .slt v275 c32_i32_131
  let v277 : BitVec 32 := Scalar.extui v276
  let c0_i32_132 : BitVec 32 := 0#32
  let v278 : BitVec 1 := Scalar.cmpi .ne v277 c0_i32_132
  v278

def k0_dev57 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_312 : BitVec 32 := 25#32
  let v591 : BitVec 32 := Scalar.addi v2 c25_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_133 : BitVec 32 := 26#32
  let v279 : BitVec 32 := Scalar.addi v2 c26_i32_133
  let c32_i32_134 : BitVec 32 := 32#32
  let v280 : BitVec 1 := Scalar.cmpi .slt v279 c32_i32_134
  let v281 : BitVec 32 := Scalar.extui v280
  let c0_i32_135 : BitVec 32 := 0#32
  let v282 : BitVec 1 := Scalar.cmpi .ne v281 c0_i32_135
  v282

def k0_dev58 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_312 : BitVec 32 := 26#32
  let v591 : BitVec 32 := Scalar.addi v2 c26_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_136 : BitVec 32 := 27#32
  let v283 : BitVec 32 := Scalar.addi v2 c27_i32_136
  let c32_i32_137 : BitVec 32 := 32#32
  let v284 : BitVec 1 := Scalar.cmpi .slt v283 c32_i32_137
  let v285 : BitVec 32 := Scalar.extui v284
  let c0_i32_138 : BitVec 32 := 0#32
  let v286 : BitVec 1 := Scalar.cmpi .ne v285 c0_i32_138
  v286

def k0_dev59 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_312 : BitVec 32 := 27#32
  let v591 : BitVec 32 := Scalar.addi v2 c27_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_139 : BitVec 32 := 28#32
  let v287 : BitVec 32 := Scalar.addi v2 c28_i32_139
  let c32_i32_140 : BitVec 32 := 32#32
  let v288 : BitVec 1 := Scalar.cmpi .slt v287 c32_i32_140
  let v289 : BitVec 32 := Scalar.extui v288
  let c0_i32_141 : BitVec 32 := 0#32
  let v290 : BitVec 1 := Scalar.cmpi .ne v289 c0_i32_141
  v290

def k0_dev60 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_312 : BitVec 32 := 28#32
  let v591 : BitVec 32 := Scalar.addi v2 c28_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_142 : BitVec 32 := 29#32
  let v291 : BitVec 32 := Scalar.addi v2 c29_i32_142
  let c32_i32_143 : BitVec 32 := 32#32
  let v292 : BitVec 1 := Scalar.cmpi .slt v291 c32_i32_143
  let v293 : BitVec 32 := Scalar.extui v292
  let c0_i32_144 : BitVec 32 := 0#32
  let v294 : BitVec 1 := Scalar.cmpi .ne v293 c0_i32_144
  v294

def k0_dev61 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_312 : BitVec 32 := 29#32
  let v591 : BitVec 32 := Scalar.addi v2 c29_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_145 : BitVec 32 := 30#32
  let v295 : BitVec 32 := Scalar.addi v2 c30_i32_145
  let c32_i32_146 : BitVec 32 := 32#32
  let v296 : BitVec 1 := Scalar.cmpi .slt v295 c32_i32_146
  let v297 : BitVec 32 := Scalar.extui v296
  let c0_i32_147 : BitVec 32 := 0#32
  let v298 : BitVec 1 := Scalar.cmpi .ne v297 c0_i32_147
  v298

def k0_dev62 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_312 : BitVec 32 := 30#32
  let v591 : BitVec 32 := Scalar.addi v2 c30_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_148 : BitVec 32 := 31#32
  let v299 : BitVec 32 := Scalar.addi v2 c31_i32_148
  let c32_i32_149 : BitVec 32 := 32#32
  let v300 : BitVec 1 := Scalar.cmpi .slt v299 c32_i32_149
  let v301 : BitVec 32 := Scalar.extui v300
  let c0_i32_150 : BitVec 32 := 0#32
  let v302 : BitVec 1 := Scalar.cmpi .ne v301 c0_i32_150
  v302

def k0_dev63 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_312 : BitVec 32 := 31#32
  let v591 : BitVec 32 := Scalar.addi v2 c31_i32_312
  let c32_i32_313 : BitVec 32 := 32#32
  let v592 : BitVec 32 := Scalar.remsi v591 c32_i32_313
  let c1_i32_317 : BitVec 32 := 1#32
  let v593 : BitVec 32 := Scalar.muli v592 c1_i32_317
  let v594 : BitVec 32 := Scalar.addi c0_i32_318 v593
  v594.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x256 : Shape := ⟨2, ![8192, 256]⟩
abbrev S_ : Shape := ⟨0, ![]⟩
abbrev S256 : Shape := ⟨1, ![256]⟩
abbrev S1x256 : Shape := ⟨2, ![1, 256]⟩

abbrev nBuf : Space → Nat
  | .hbm => 22
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S_, .f32⟩
  | .hbm, ⟨2, _⟩ => ⟨S256, .f32⟩
  | .hbm, ⟨3, _⟩ => ⟨S8192x256, .f32⟩
  | .hbm, ⟨4, _⟩ => ⟨S_, .f32⟩
  | .hbm, ⟨5, _⟩ => ⟨S8192x256, .f32⟩
  | .hbm, ⟨6, _⟩ => ⟨S_, .i32⟩
  | .hbm, ⟨7, _⟩ => ⟨S8192x256, .f32⟩
  | .hbm, ⟨8, _⟩ => ⟨S_, .i32⟩
  | .hbm, ⟨9, _⟩ => ⟨S256, .f32⟩
  | .hbm, ⟨10, _⟩ => ⟨S8192x256, .f32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S1x256, .f32⟩
  | .hbm, ⟨15, _⟩ => ⟨S256, .f32⟩
  | .hbm, ⟨16, _⟩ => ⟨S256, .f32⟩
  | .hbm, ⟨17, _⟩ => ⟨S1x256, .f32⟩
  | .hbm, ⟨18, _⟩ => ⟨S_, .i32⟩
  | .hbm, ⟨19, _⟩ => ⟨S8192x256, .f32⟩
  | .hbm, ⟨20, _⟩ => ⟨S_, .i32⟩
  | .hbm, ⟨21, _⟩ => ⟨S_, .i32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_c : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_while0c_c_4 : Ref sig .tc := ⟨.hbm, 11, rfl⟩
abbrev main_while0c_v4 : Ref sig .tc := ⟨.hbm, 12, rfl⟩
abbrev main_while0b_call0_c : Ref sig .tc := ⟨.hbm, 13, rfl⟩
abbrev main_while0b_call0_v0 : Ref sig .tc := ⟨.hbm, 14, rfl⟩
abbrev main_while0b_v4 : Ref sig .tc := ⟨.hbm, 15, rfl⟩
abbrev main_while0b_v5 : Ref sig .tc := ⟨.hbm, 16, rfl⟩
abbrev main_while0b_call1_v0 : Ref sig .tc := ⟨.hbm, 17, rfl⟩
abbrev main_while0b_call1_c : Ref sig .tc := ⟨.hbm, 18, rfl⟩
abbrev main_while0b_v6 : Ref sig .tc := ⟨.hbm, 19, rfl⟩
abbrev main_while0b_c_4 : Ref sig .tc := ⟨.hbm, 20, rfl⟩
abbrev main_while0b_v7 : Ref sig .tc := ⟨.hbm, 21, rfl⟩

abbrev nD : Nat := 1
abbrev τ : Topo := Topo.v7x

variable {F : FTy → Type} [FloatOps F]

abbrev main_while0_count : Scf.Loop 32 := ⟨0#32, 8192#32, 1#32⟩
-- ==== Proof.Proto.lean ====
/-
# The protocol of the mesh-wide prefix product

Thirty-two devices in a row, each holding 256 rows. Device `c` multiplies its rows together (`tot c`) and copies that
one row into slot `k` of the landing buffer of device `c + k + 1`, for every later device; a device's slot `k` is thus
filled by device `c - k - 1` and only the slots `k < c` are ever filled. Before any copy every device signals every
other one on the barrier semaphore and waits for its thirty-one signals.

This module states the protocol: the cells (one barrier cell, thirty-one send cells and thirty-one receive cells a
device), the one round of duties each cell has, what a duty hands over, what each device owes and the levels of the
cells, which make every wait safe.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, and the protocol's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Devices: the one `k + 1` places after, the one `k + 1` places before -/

def up (c : Dev nD) (k : Fin 31) : Dev nD := ⟨(c.val + k.val + 1) % 32, Nat.mod_lt _ (by decide)⟩
def dn (c : Dev nD) (k : Fin 31) : Dev nD := ⟨(c.val + (31 - k.val)) % 32, Nat.mod_lt _ (by decide)⟩
/-- The slot of device `a` that device `b`, before it, fills. -/
def slotIx (a b : Dev nD) : Fin 31 := ⟨(a.val - b.val - 1) % 31, Nat.mod_lt _ (by decide)⟩

theorem dn_up (c : Dev nD) (k : Fin 31) : dn (up c k) k = c := by
  have := c.isLt; have := k.isLt
  apply Fin.ext; simp only [dn, up]; have h : nD = 32 := rfl; omega
theorem up_dn (c : Dev nD) (k : Fin 31) : up (dn c k) k = c := by
  have := c.isLt; have := k.isLt
  apply Fin.ext; simp only [dn, up]; have h : nD = 32 := rfl; omega
theorem up_val {c : Dev nD} {k : Fin 31} (h : c.val + k.val + 1 < 32) : (up c k).val = c.val + k.val + 1 := Nat.mod_eq_of_lt h
theorem dn_val {c : Dev nD} {k : Fin 31} (h : k.val < c.val) : (dn c k).val = c.val - k.val - 1 := by
  have := c.isLt; have := k.isLt; have h : nD = 32 := rfl; simp only [dn]; omega
theorem slotIx_val {a b : Dev nD} (h : b.val < a.val) : (slotIx a b).val = a.val - b.val - 1 := by
  have := a.isLt; have h : nD = 32 := rfl; simp only [slotIx]; exact Nat.mod_eq_of_lt (by omega)

/-! ## The memrefs, semaphores and cells -/

abbrev xM : Memref sig .tc .vmem S256x256 .bf16 := Memref.whole cc0_stg0_0
abbrev oM : Memref sig .tc .vmem S256x256 .f32 := Memref.whole cc0_stg1_0
abbrev cM : Memref sig .tc .vmem S31x1x256 .f32 := Memref.whole cc0_scratch0
abbrev tM : Memref sig .tc .vmem S1x256 .f32 := Memref.whole cc0_scratch1

theorem slot_inb (k : Fin 31) : ∀ a, (![k.val, 0, 0] : Fin 3 → ℕ) a + S1x1x256.size a ≤ S31x1x256.size a := by
  intro a; have := k.isLt; fin_cases a
  · show k.val + 1 ≤ 31; omega
  · show 0 + 1 ≤ 1; omega
  · show 0 + 256 ≤ 256; omega

/-- Slot `k` of the landing buffer: one row. -/
def slot (k : Fin 31) : Memref sig .tc .vmem S1x256 .f32 :=
  (cM.slice (Rect.unit (s := S31x1x256) ![k.val, 0, 0] S1x1x256.size (slot_inb k)) (fun _ => rfl)).squeeze S1x256 squeezes_S1x1x256_S1x256

/-- The runtime's barrier semaphore, the send semaphores and the receive semaphores. -/
abbrev barS : Sem sig := (SemArray.scalar (sig.barrier 0 rfl) : Sems sig S_).sem
def sendS (k : Fin 31) : DmaSem sig := (⟨k.val + 2, by have := k.isLt; omega⟩ : Fin 64)
def recvS (k : Fin 31) : DmaSem sig := (⟨k.val + 33, by have := k.isLt; omega⟩ : Fin 64)

abbrev barCell (c : Dev nD) : GSem nD τ sig := ((c : Thread nD τ), .reg barS)
abbrev sendCell (c : Dev nD) (k : Fin 31) : GSem nD τ sig := ((c : Thread nD τ), .dma (sendS k))
abbrev recvCell (c : Dev nD) (k : Fin 31) : GSem nD τ sig := ((c : Thread nD τ), .dma (recvS k))

/-- What a semaphore serves for. -/
inductive CellKind where
  | bar
  | send (k : Fin 31)
  | recv (k : Fin 31)
  | other
  deriving DecidableEq

def kind : SemLoc sig → CellKind
  | .reg _ => .bar
  | .dma i =>
    if h : 33 ≤ (show Fin 64 from i).val then .recv ⟨(show Fin 64 from i).val - 33, by have := (show Fin 64 from i).isLt; omega⟩
    else if h' : 2 ≤ (show Fin 64 from i).val then .send ⟨(show Fin 64 from i).val - 2, by omega⟩
    else .other

theorem kind_bar : kind (.reg barS) = .bar := rfl
theorem kind_send (k : Fin 31) : kind (.dma (sendS k)) = .send k := by revert k; decide
theorem kind_recv (k : Fin 31) : kind (.dma (recvS k)) = .recv k := by revert k; decide

/-- The credit of one row. -/
abbrev N : ℕ := tM.view.dmaCredit
theorem N_pos : 0 < N := View.dmaCredit_pos _ (by decide)
theorem slot_credit (k : Fin 31) : (slot k).view.dmaCredit = N := rfl

/-! ## Contents -/

/-- Device `c`'s rows as staged. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s total: its rows multiplied together. -/
def tot (c : Dev nD) : (cc0_scratch1 : Ref sig .tc).ty.Contents (Elt F) := k0_pay2 (xstg m ρ c)

/-- What the landing buffer of device `c` holds once every copy into it has landed, on the slots `k < c`: slot `k` the
    total of device `c - k - 1`. -/
def landed (c : Dev nD) : (cc0_scratch0 : Ref sig .tc).ty.Contents (Elt F) :=
  fun (i : S31x1x256.Idx) => tot m ρ (dn c (i 0)) (Shape.pair (0 : Fin 1) (i 2 : Fin 256))

/-- The elements of slot `k`. -/
def slotSet (k : Fin 31) : Finset S31x1x256.Idx := (slot k).view.set

/-- Slot `k` of device `c`'s landing buffer, owned at the contents `f`. -/
def slotPts (c : Dev nD) (k : Fin 31) (f : Buf (Elt F) ((c : Thread nD τ).loc cc0_scratch0)) : sProp 𝕄 :=
  ((c : Thread nD τ).loc cc0_scratch0) ↦[slotSet k]{fullShare} f
/-- The share of device `c`'s total lent to its copy `k`. -/
def srcPts (c : Dev nD) (k : Fin 31) : sProp 𝕄 :=
  ((c : Thread nD τ).loc cc0_scratch1) ↦{Transfers.shareTok fullShare 31 k} tot m ρ c

omit [FloatOps F] in
instance slotPts_storable (c : Dev nD) (k) (f) : BI.Storable (upEmb : UEmb _ 𝕄) (slotPts (F := F) c k f) := by unfold slotPts; infer_instance
instance srcPts_storable (c : Dev nD) (k) : BI.Storable (upEmb : UEmb _ 𝕄) (srcPts (F := F) m ρ c k) := by unfold srcPts; infer_instance

/-! ## The schedule -/

/-- What device `d`'s signal hands device `c`: if `c` is before `d`, the slot of `d` that `c` fills. -/
def barPay (c d : Dev nD) : sProp 𝕄 := if c.val < d.val then iprop(∃ f, slotPts d (slotIx d c) f) else iprop(emp)

omit [FloatOps F] in
instance barPay_storable (c d : Dev nD) : BI.Storable (upEmb : UEmb _ 𝕄) (barPay (F := F) c d) := by
  unfold barPay; split <;> infer_instance

/-- The one duty name of a send or receive cell. -/
abbrev d₀ : Dev nD := (⟨0, by decide⟩ : Fin 32)

/-- One round. A barrier cell: one unit from every other device. A send cell `k`, where device `c + k + 1` exists: the
    row's credit, the lent share back. A receive cell `k`, where device `c - k - 1` exists: the row's credit, the slot
    holding that device's total. -/
def sched : Rounds.Schedule (GSem nD τ sig) (Dev nD) 𝕄 where
  duties g r :=
    if r = 0 ∧ g.1.2 = .tc then
      match kind g.2 with
      | .bar => Finset.univ.erase g.1.1
      | .send k => if g.1.1.val + k.val + 1 < 32 then {d₀} else ∅
      | .recv k => if k.val < g.1.1.val then {d₀} else ∅
      | .other => ∅
    else ∅
  unitless _ := False
  amount g _ _ := match kind g.2 with
    | .bar => 1
    | _ => N
  payload g _ d := match kind g.2 with
    | .bar => barPay g.1.1 d
    | .send k => srcPts m ρ g.1.1 k
    | .recv k => slotPts g.1.1 k (landed m ρ g.1.1)
    | .other => iprop(emp)
  amount_pos g _ _ _ := by
    split
    · exact Nat.one_pos
    · exact N_pos

instance sched_payload_storable (g : GSem nD τ sig) (r : ℕ) (d : Dev nD) :
    BI.Storable (upEmb : UEmb _ 𝕄) ((sched (F := F) m ρ).payload g r d) := by
  show BI.Storable upEmb (match kind g.2 with
    | .bar => barPay g.1.1 d
    | .send k => srcPts m ρ g.1.1 k
    | .recv k => slotPts g.1.1 k (landed m ρ g.1.1)
    | .other => iprop(emp))
  split <;> infer_instance

section Sched
variable (c : Dev nD) (k : Fin 31)

theorem duties_bar : (sched (F := F) m ρ).duties (barCell c) 0 = Finset.univ.erase c := rfl
theorem duties_send : (sched (F := F) m ρ).duties (sendCell c k) 0 = if c.val + k.val + 1 < 32 then {d₀} else ∅ := by
  dsimp only [sched]; rw [if_pos ⟨rfl, rfl⟩, kind_send]
theorem duties_recv : (sched (F := F) m ρ).duties (recvCell c k) 0 = if k.val < c.val then {d₀} else ∅ := by
  dsimp only [sched]; rw [if_pos ⟨rfl, rfl⟩, kind_recv]
theorem duties_later (g : GSem nD τ sig) : ∀ r, 1 ≤ r → (sched (F := F) m ρ).duties g r = ∅ :=
  fun r hr => by dsimp only [sched]; rw [if_neg fun h => by omega]
theorem duties_none {g : GSem nD τ sig} (h : (sched (F := F) m ρ).duties g 0 = ∅) : ∀ r, 0 ≤ r → (sched (F := F) m ρ).duties g r = ∅ :=
  fun r _ => by
    rcases Nat.eq_zero_or_pos r with rfl | hr
    · exact h
    · exact duties_later m ρ g r hr

theorem amount_bar (d : Dev nD) : (sched (F := F) m ρ).amount (barCell c) 0 d = 1 := rfl
theorem amount_send (d : Dev nD) : (sched (F := F) m ρ).amount (sendCell c k) 0 d = N := by dsimp only [sched]; rw [kind_send]
theorem amount_recv (d : Dev nD) : (sched (F := F) m ρ).amount (recvCell c k) 0 d = N := by dsimp only [sched]; rw [kind_recv]

theorem expect_bar : (sched (F := F) m ρ).expect (barCell c) 0 = 31 := by
  unfold Schedule.expect Schedule.amountOf
  rw [duties_bar, Finset.sum_congr rfl fun d _ => amount_bar m ρ c d, Finset.sum_const, Finset.card_erase_of_mem (Finset.mem_univ _),
    Finset.card_univ, Fintype.card_fin]
  rfl
theorem expect_send (h : c.val + k.val + 1 < 32) : (sched (F := F) m ρ).expect (sendCell c k) 0 = N := by
  unfold Schedule.expect Schedule.amountOf; rw [duties_send, if_pos h, Finset.sum_singleton, amount_send]
theorem expect_recv (h : k.val < c.val) : (sched (F := F) m ρ).expect (recvCell c k) 0 = N := by
  unfold Schedule.expect Schedule.amountOf; rw [duties_recv, if_pos h, Finset.sum_singleton, amount_recv]

theorem payload_bar (d : Dev nD) : (sched (F := F) m ρ).payload (barCell c) 0 d = barPay c d := rfl
theorem payload_send (d : Dev nD) : (sched (F := F) m ρ).payload (sendCell c k) 0 d = srcPts m ρ c k := by
  dsimp only [sched]; rw [kind_send]
theorem payload_recv (d : Dev nD) : (sched (F := F) m ρ).payload (recvCell c k) 0 d = slotPts c k (landed m ρ c) := by
  dsimp only [sched]; rw [kind_recv]

theorem rest_bar : bigSep ((sched (F := F) m ρ).duties (barCell c) 0 \ ∅) (fun d => (sched (F := F) m ρ).payload (barCell c) 0 d)
    = bigSep (Finset.univ.erase c) (fun d => (barPay c d : sProp 𝕄)) := by
  rw [Finset.sdiff_empty, duties_bar]; rfl
theorem rest_send (h : c.val + k.val + 1 < 32) :
    bigSep ((sched (F := F) m ρ).duties (sendCell c k) 0 \ ∅) (fun d => (sched (F := F) m ρ).payload (sendCell c k) 0 d) = srcPts m ρ c k := by
  rw [Finset.sdiff_empty, duties_send, if_pos h, bigSep_singleton, payload_send]
theorem rest_recv (h : k.val < c.val) :
    bigSep ((sched (F := F) m ρ).duties (recvCell c k) 0 \ ∅) (fun d => (sched (F := F) m ρ).payload (recvCell c k) 0 d)
      = slotPts c k (landed m ρ c) := by
  rw [Finset.sdiff_empty, duties_recv, if_pos h, bigSep_singleton, payload_recv]

end Sched

/-! ## What each device owes; the levels -/

/-- The indices from `n` on, and those before `n`. -/
def fromN {q : ℕ} (n : ℕ) : Finset (Fin q) := Finset.univ.filter fun j => n ≤ j.val
def uptoN {q : ℕ} (n : ℕ) : Finset (Fin q) := Finset.univ.filter fun j => j.val < n

theorem fromN_zero {q : ℕ} : (fromN 0 : Finset (Fin q)) = Finset.univ := by ext j; simp [fromN]
theorem fromN_top {q : ℕ} : (fromN q : Finset (Fin q)) = ∅ := by ext j; simp [fromN]
theorem uptoN_zero {q : ℕ} : (uptoN 0 : Finset (Fin q)) = ∅ := by ext j; simp [uptoN]
theorem uptoN_top {q : ℕ} : (uptoN q : Finset (Fin q)) = Finset.univ := by ext j; simp [uptoN]
theorem fromN_step {q n : ℕ} (h : n < q) : (fromN n : Finset (Fin q)) = insert ⟨n, h⟩ (fromN (n + 1)) := by
  ext j; simp only [fromN, Finset.mem_filter, Finset.mem_univ, true_and, Finset.mem_insert, Fin.ext_iff]; omega
theorem fromN_not {q n : ℕ} (h : n < q) : (⟨n, h⟩ : Fin q) ∉ fromN (n + 1) := by simp [fromN]
theorem uptoN_step {q n : ℕ} (h : n < q) : (uptoN (n + 1) : Finset (Fin q)) = insert ⟨n, h⟩ (uptoN n) := by
  ext j; simp only [uptoN, Finset.mem_filter, Finset.mem_univ, true_and, Finset.mem_insert, Fin.ext_iff]; omega
theorem uptoN_not {q n : ℕ} (h : n < q) : (⟨n, h⟩ : Fin q) ∉ uptoN n := by simp [uptoN]

theorem bigSep_fromN {M : Type*} [URA M] {q n : ℕ} (h : n < q) (Φ : Fin q → sProp M) :
    bigSep (fromN n) Φ = iprop(Φ ⟨n, h⟩ ∗ bigSep (fromN (n + 1)) Φ) := by
  rw [fromN_step h]; exact bigSep_insert (fromN_not h)
theorem bigSep_uptoN {M : Type*} [URA M] {q n : ℕ} (h : n < q) (Φ : Fin q → sProp M) :
    bigSep (uptoN (n + 1)) Φ = iprop(Φ ⟨n, h⟩ ∗ bigSep (uptoN n) Φ) := by
  rw [uptoN_step h]; exact bigSep_insert (uptoN_not h)

/-- What device `c` owes for its copy `k`: the row's credit on the receive cell it fills. -/
def oweC (c : Dev nD) (k : Fin 31) : CellTallies nD τ sig Unit :=
  if c.val + k.val + 1 < 32 then tallyAt (recvCell (up c k) k) () N else 0
/-- What device `c` owes device `j`'s barrier. -/
def oweB (c : Dev nD) (j : Dev nD) : CellTallies nD τ sig Unit :=
  if j = c then 0 else tallyAt (barCell j) () 1
/-- What is still owed for the copies from the `n`-th on; -/
def Osend (c : Dev nD) (n : ℕ) : CellTallies nD τ sig Unit := ∑ k ∈ (fromN n : Finset (Fin 31)), oweC c k
/-- with the signals from the `n`-th on. -/
def Osig (c : Dev nD) (n : ℕ) : CellTallies nD τ sig Unit := Osend c 0 + ∑ j ∈ (fromN n : Finset (Fin 32)), oweB c j

theorem Osend_step (c : Dev nD) {n : ℕ} (h : n < 31) : Osend c n = Osend c (n + 1) + oweC c ⟨n, h⟩ := by
  unfold Osend; rw [fromN_step h, Finset.sum_insert (fromN_not h), add_comm]
theorem Osend_top (c : Dev nD) : Osend c 31 = 0 := by unfold Osend; rw [fromN_top]; rfl
theorem Osig_step (c : Dev nD) {n : ℕ} (h : n < 32) : Osig c n = Osig c (n + 1) + oweB c (⟨n, h⟩ : Fin 32) := by
  unfold Osig; rw [fromN_step h, Finset.sum_insert (fromN_not h), add_assoc, add_comm (oweB c _)]
theorem Osig_top (c : Dev nD) : Osig c 32 = Osend c 0 := by unfold Osig; rw [fromN_top]; simp

def L (g : GSem nD τ sig) : Finset Unit := if g.1.2 = .tc then {()} else ∅
/-- Barrier cells at 1, receive cells at 2, every other cell at 0. -/
def lv (g : GSem nD τ sig) (_ : Unit) : ℕ := match kind g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (k : Fin 31) : lv (recvCell c k) () = 2 := by unfold lv; rw [kind_recv]

theorem sum_tally_apply {ι : Type} [DecidableEq ι] (s : Finset ι) (f : ι → CellTallies nD τ sig Unit) (g : GSem nD τ sig) (u : Unit) :
    (∑ i ∈ s, f i) g u = ∑ i ∈ s, f i g u := by
  induction s using Finset.induction_on with
  | empty => rfl
  | insert a s ha ih => rw [Finset.sum_insert ha, Finset.sum_insert ha, Pi.add_apply, Finsupp.add_apply, ih]

theorem oweC_pos {c : Dev nD} {k : Fin 31} {g : GSem nD τ sig} {u : Unit} (h : 0 < oweC c k g u) : g = recvCell (up c k) k := by
  unfold oweC at h; split at h
  · rw [tallyAt_apply] at h
    by_contra hn; rw [if_neg (fun h' => hn h'.1)] at h; exact Nat.lt_irrefl 0 h
  · exact absurd h (Nat.lt_irrefl 0)
theorem oweB_pos {c j : Dev nD} {g : GSem nD τ sig} {u : Unit} (h : 0 < oweB c j g u) : g = barCell j := by
  unfold oweB at h; split at h
  · exact absurd h (Nat.lt_irrefl 0)
  · rw [tallyAt_apply] at h
    by_contra hn; rw [if_neg (fun h' => hn h'.1)] at h; exact Nat.lt_irrefl 0 h

theorem Osend_pos {c : Dev nD} {n : ℕ} {g : GSem nD τ sig} {u : Unit} (h : 0 < Osend c n g u) : ∃ d k, g = recvCell d k := by
  unfold Osend at h; rw [sum_tally_apply] at h
  obtain ⟨k, -, hk⟩ := Finset.exists_ne_zero_of_sum_ne_zero (Nat.pos_iff_ne_zero.mp h)
  exact ⟨_, _, oweC_pos (Nat.pos_iff_ne_zero.mpr hk)⟩
theorem Osig_pos {c : Dev nD} {n : ℕ} {g : GSem nD τ sig} {u : Unit} (h : 0 < Osig c n g u) :
    (∃ d k, g = recvCell d k) ∨ ∃ d, g = barCell d := by
  unfold Osig at h; rw [Pi.add_apply, Finsupp.add_apply] at h
  rcases Nat.pos_iff_ne_zero.mp h |> fun h => (by omega : 0 < Osend c 0 g u ∨ 0 < (∑ j ∈ (fromN n : Finset (Fin 32)), oweB c j) g u) with h | h
  · exact Or.inl (Osend_pos h)
  · rw [sum_tally_apply] at h
    obtain ⟨j, -, hj⟩ := Finset.exists_ne_zero_of_sum_ne_zero (Nat.pos_iff_ne_zero.mp h)
    exact Or.inr ⟨_, oweB_pos (Nat.pos_iff_ne_zero.mpr hj)⟩

/-- The pipeline's own waits, on cells of level 0, are safe whatever of `Osig` is still owed. -/
theorem mayWait_stage (c : Dev nD) (q : DmaSem sig) (hq : kind (.dma q) = .other) (O : CellTallies nD τ sig Unit) (hO : O = Osig c 0 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases Osig_pos hg with ⟨d, k, rfl⟩ | ⟨d, rfl⟩ <;> exact Finset.mem_singleton_self _)
      (fun p hp => by rw [Finset.mem_singleton.mp hp]; unfold lv; rw [hq])
      (fun g u hg => by
        rcases Osig_pos hg with ⟨d, k, rfl⟩ | ⟨d, rfl⟩
        · rw [lv_recv]; decide
        · rw [lv_bar]; decide)
  · rw [MayWait_zero]; iintro -; iempintro

/-- At its barrier wait a device owes only receive cells, which are above its barrier cell. -/
theorem mayWait_bar (c : Dev nD) : (levAts L lv : sProp 𝕄) ⊢ MayWait (c : Thread nD τ) (.reg barS) () (Osend c 0) :=
  MayOwe.of_cut (L := L) (lev := lv) 1 (fun p hp => by rw [Finset.mem_singleton.mp hp, L_tc]; exact Finset.mem_singleton_self _)
    (fun g u hg => by rcases Osend_pos hg with ⟨d, k, rfl⟩; exact Finset.mem_singleton_self _)
    (fun p hp => by rw [Finset.mem_singleton.mp hp]; exact (lv_bar c).le)
    (fun g u hg => by rcases Osend_pos hg with ⟨d, k, rfl⟩; rw [lv_recv]; decide)

/-! ## The slots of the landing buffer -/

theorem mem_slot (k : Fin 31) (i : S31x1x256.Idx) : Iff (i ∈ slotSet k) ((i 0).val = k.val) := by
  have e : slotSet k = (Rect.unit (s := S31x1x256) ![k.val, 0, 0] S1x1x256.size (slot_inb k)).set :=
    (View.set_reshape _ _).trans (View.set_slice_whole cc0_scratch0 _)
  rw [e]
  refine Rect.mem_set_unit.trans ⟨fun h => ?_, fun h a => ?_⟩
  · have := h 0; have h1 : k.val ≤ (i 0).val := this.1; have h2 : (i 0).val < k.val + 1 := this.2; omega
  · fin_cases a
    · exact ⟨h.ge, by show (i 0).val < k.val + 1; omega⟩
    · exact ⟨Nat.zero_le _, by show (i 1).val < 0 + 1; have : (i 1).val < 1 := (i 1).isLt; omega⟩
    · exact ⟨Nat.zero_le _, by show (i 2).val < 0 + 256; have : (i 2).val < 256 := (i 2).isLt; omega⟩

theorem slot_disjoint (k k' : Fin 31) (h : k ≠ k') : Disjoint (slotSet k) (slotSet k') := by
  rw [Finset.disjoint_left]; intro i hi hi'
  exact h (Fin.ext (((mem_slot k i).mp hi).symm.trans ((mem_slot k' i).mp hi')))

theorem slot_cover : (Finset.univ.biUnion fun k : Fin 31 => slotSet k) = Finset.univ := by
  ext i; constructor
  · intro _; exact Finset.mem_univ _
  · intro _; exact Finset.mem_biUnion.mpr ⟨i 0, Finset.mem_univ _, (mem_slot _ i).mpr rfl⟩

/-- Index `x` of slot `k` is index `(k, 0, x₁)` of the buffer. -/
theorem slot_emb (k : Fin 31) (x : S1x256.Idx) :
    ((slot k).view.emb x : S31x1x256.Idx) = (fun a => match a with
      | ⟨0, _⟩ => k
      | ⟨1, _⟩ => (0 : Fin 1)
      | ⟨2, _⟩ => (x 1 : Fin 256) : (a : Fin 3) → Fin (S31x1x256.size a)) := by
  have hn := squeezes_S1x1x256_S1x256.numel_eq
  have hr := Shape.rowMajor_reshapeEquiv hn x
  rw [Shape.rowMajor_val_two, Shape.rowMajor_val_three] at hr
  set y := Shape.reshapeEquiv hn x with hy
  have h0 : (y 0).val < 1 := (y 0).isLt
  have h1 : (y 1).val < 1 := (y 1).isLt
  have h2 : (x 0).val < 1 := (x 0).isLt
  have he : ((slot k).view.emb x : S31x1x256.Idx) = (Rect.unit (s := S31x1x256) ![k.val, 0, 0] S1x1x256.size (slot_inb k)).emb y := rfl
  have hd : ((y 0).val * 1 + (y 1).val) * 256 + (y 2).val = (x 0).val * 256 + (x 1).val := hr
  rw [he]
  funext a
  apply Fin.ext
  rw [Rect.emb_apply]
  fin_cases a
  · show k.val + 1 * (y 0).val = k.val; omega
  · show 0 + 1 * (y 1).val = 0; omega
  · show 0 + 1 * (y 2).val = (x 1).val; omega

/-- A copy of the total of the device `k + 1` places before leaves in slot `k` what `landed` says. -/
theorem slot_landed (c : Dev nD) (k : Fin 31) (f : (cc0_scratch0 : Ref sig .tc).ty.Contents (Elt F)) :
    ∀ i ∈ slotSet k, ((slot k).view.write (Elt F) f (tM.view.read (Elt F) (tot m ρ (dn c k))) Finset.univ : (cc0_scratch0 : Ref sig .tc).ty.Contents (Elt F)) i
      = landed m ρ c i := by
  intro i hi
  obtain ⟨x, -, rfl⟩ := Finset.mem_map.mp (show i ∈ Finset.univ.map (slot k).view.emb from hi)
  refine (View.write_emb_of_mem (v := (slot k).view) f _ (Finset.mem_univ x)).trans ?_
  refine Eq.trans ?_ (congrArg (landed m ρ c) (slot_emb k x)).symm
  show tot m ρ (dn c k) x = tot m ρ (dn c k) (Shape.pair (0 : Fin 1) (x 1 : Fin 256))
  congr 1
  funext a
  fin_cases a
  · exact Fin.ext (by have : (x 0).val < 1 := (x 0).isLt; show (x 0).val = 0; omega)
  · rfl

end Cert.Scan

end
-- ==== Proof.Steps.lean ====
/-
# The four conditional steps of the kernel

The kernel is a sequence of conditionals: thirty-two signals, thirty-one copies, thirty-one waits for a landed row and
thirty-one waits for a finished copy, each taken or not according to the device. This module states what a device holds
between two of them (`SigSt`, `SendSt`, `RecvSt`, `DrainSt`, at the number of conditionals passed) and proves, once for
every index, that a conditional takes one such state to the next whichever way it goes.
-/
module

public import proofs.«01_k».proof.Proof.Proto

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells of a device, and their records -/

/-- The semaphores of the protocol: the barrier, then the DMA semaphores 2 to 63. -/
def csem (i : Fin 63) : SemLoc sig := if i.val = 0 then .reg barS else .dma (⟨i.val + 1, by have := i.isLt; omega⟩ : Fin 64)
abbrev kcell (ck : Dev nD × Fin 63) : GSem nD τ sig := ((ck.1 : Thread nD τ), csem ck.2)

def bIx : Fin 63 := 0
def sIx (k : Fin 31) : Fin 63 := ⟨k.val + 1, by have := k.isLt; omega⟩
def rIx (k : Fin 31) : Fin 63 := ⟨k.val + 32, by have := k.isLt; omega⟩
theorem csem_b : csem bIx = .reg barS := rfl
theorem csem_s (k : Fin 31) : csem (sIx k) = .dma (sendS k) := by revert k; decide
theorem csem_r (k : Fin 31) : csem (rIx k) = .dma (recvS k) := by revert k; decide

/-- Every cell's invariant, at the names `K`, and that every cell has reached its round. -/
def records (K : Dev nD × Fin 63 → ℕ) : sProp 𝕄 :=
  iprop((bigSep Finset.univ fun ck : Dev nD × Fin 63 => cellInv ER (sched m ρ) (K ck) (kcell ck))
    ∗ bigSep Finset.univ fun ck : Dev nD × Fin 63 => reached ER (kcell ck) 0)

instance records_persistent (K : Dev nD × Fin 63 → ℕ) : BI.Persistent (records m ρ K) := by unfold records; infer_instance

variable (K : Dev nD × Fin 63 → ℕ)

theorem record_at (ck : Dev nD × Fin 63) :
    records m ρ K ⊢ iprop(cellInv ER (sched m ρ) (K ck) (kcell ck) ∗ reached ER (kcell ck) 0) := by
  unfold records
  exact BIClass.sep_mono (bigSep_elim (Finset.mem_univ ck)) (bigSep_elim (Finset.mem_univ ck))
theorem record_bar (c : Dev nD) : records m ρ K ⊢ iprop(cellInv ER (sched m ρ) (K (c, bIx)) (barCell c) ∗ reached ER (barCell c) 0) :=
  record_at m ρ K (c, bIx)
theorem record_send (c : Dev nD) (k : Fin 31) :
    records m ρ K ⊢ iprop(cellInv ER (sched m ρ) (K (c, sIx k)) (sendCell c k) ∗ reached ER (sendCell c k) 0) := by
  have h := record_at m ρ K (c, sIx k)
  unfold kcell at h; rw [csem_s] at h; exact h
theorem record_recv (c : Dev nD) (k : Fin 31) :
    records m ρ K ⊢ iprop(cellInv ER (sched m ρ) (K (c, rIx k)) (recvCell c k) ∗ reached ER (recvCell c k) 0) := by
  have h := record_at m ρ K (c, rIx k)
  unfold kcell at h; rw [csem_r] at h; exact h

/-! ## What a device holds between two conditionals -/

/-- After `n` signals: the tokens of the later ones, with what each hands over. -/
def SigSt (c : Dev nD) (n : ℕ) : sProp 𝕄 :=
  iprop(records m ρ K ∗ (∃ W, owes (c : Thread nD τ) (Osig c n) W)
    ∗ bigSep (fromN n : Finset (Fin 32)) fun j => iprop(dutyTok ER (barCell j) 0 c ∗ barPay j c))

/-- What copy `k` needs, if there is a device for it: its two tokens and the slot it fills; in any case the lent share. -/
def sendA (c : Dev nD) (k : Fin 31) : sProp 𝕄 :=
  iprop(srcPts m ρ c k ∗ if c.val + k.val + 1 < 32 then
    iprop(dutyTok ER (sendCell c k) 0 d₀ ∗ dutyTok ER (recvCell (up c k) k) 0 d₀ ∗ ∃ f, slotPts (up c k) k f) else iprop(emp))
/-- What is left of copy `k`: the credit to wait for it; the lent share if there was no copy. -/
def sendB (c : Dev nD) (k : Fin 31) : sProp 𝕄 :=
  if c.val + k.val + 1 < 32 then cred (tallyAt (sendCell c k) () N) else srcPts m ρ c k

/-- After `n` copies. -/
def SendSt (c : Dev nD) (n : ℕ) : sProp 𝕄 :=
  iprop(records m ρ K ∗ (∃ W, owes (c : Thread nD τ) (Osend c n) W) ∗ bigSep (fromN n) (sendA m ρ c) ∗ bigSep (uptoN n) (sendB m ρ c))

/-- Before the wait on receive cell `k`: the position on it, and the credit or else the slot, never lent; -/
def recvA (c : Dev nD) (k : Fin 31) : sProp 𝕄 :=
  iprop(atPos ER (recvCell c k) 0 ∅ 0
    ∗ if k.val < c.val then cred (tallyAt (recvCell c k) () N) else iprop(∃ f, slotPts c k f))
/-- after it: the counter at zero, and the slot, holding what it should if it was filled. -/
def recvB (c : Dev nD) (k : Fin 31) : sProp 𝕄 :=
  iprop(semVal (recvCell c k) 0 ∗ ∃ f, ⌜k.val < c.val → f = landed m ρ c⌝ ∗ slotPts c k f)

/-- After `n` waits for a landed row. -/
def RecvSt (c : Dev nD) (n : ℕ) : sProp 𝕄 :=
  iprop(records m ρ K ∗ (∃ W, owes (c : Thread nD τ) 0 W) ∗ bigSep (fromN n) (recvA (F := F) c) ∗ bigSep (uptoN n) (recvB m ρ c))

/-- Before the wait for copy `k` to have finished: the position on its cell and what `sendB` says; -/
def drainA (c : Dev nD) (k : Fin 31) : sProp 𝕄 := iprop(atPos ER (sendCell c k) 0 ∅ 0 ∗ sendB m ρ c k)
/-- after it: the counter at zero and the lent share back. -/
def drainB (c : Dev nD) (k : Fin 31) : sProp 𝕄 := iprop(semVal (sendCell c k) 0 ∗ srcPts m ρ c k)

/-- After `n` waits for a finished copy. -/
def DrainSt (c : Dev nD) (n : ℕ) : sProp 𝕄 :=
  iprop(records m ρ K ∗ (∃ W, owes (c : Thread nD τ) 0 W) ∗ bigSep (fromN n) (drainA m ρ c) ∗ bigSep (uptoN n) (drainB m ρ c))

/-! ## The steps -/

section Step

variable {α : Type} {Q : α → sProp (MT nD τ sig Unit (Elt F) ℕ UU ℕ)} {jp : Prog (TpuEff nD τ sig (Elt F) Λ₀ .tc) α} {R : sProp (MT nD τ sig Unit (Elt F) ℕ UU ℕ)} (c : Dev nD)

/-- From `P`, device `c` runs `p` to `Q`. -/
def Runs (c : Dev nD) (P : sProp (MT nD τ sig Unit (Elt F) ℕ UU ℕ)) (p : Prog (TpuEff nD τ sig (Elt F) Λ₀ .tc) α) (Q : α → sProp (MT nD τ sig Unit (Elt F) ℕ UU ℕ)) : Prop :=
  P ⊢ wp frame (wpE (defs₀ (F := F)) 𝒱₀ (c : Thread nD τ) none) Set.univ p Q

/-- A signal to device `n`, sent unless it is the device itself. -/
theorem sig_step {n : ℕ} (hn : n < 32) {p : Prop} {inst : Decidable p}
    (hc : Iff p (c.val ≠ n)) {dv : ℕ} {hlt : p → dv < nD} (hdv : dv = n)
    (h : Runs c iprop(SigSt m ρ K c (n + 1) ∗ R) jp Q) :
    Runs c iprop(SigSt m ρ K c n ∗ R)
      (dite p (fun hh => semSignalWord (⟨dv, hlt hh⟩ : Dev nD) barS 1#32 >>= fun _ => jp) fun _ => jp) Q := by
  unfold Runs at *
  unfold SigSt at *
  rw [bigSep_fromN hn]
  subst hdv
  by_cases hcond : p
  · have hne := hc.mp hcond
    have hOs : Osig c dv = Osig c (dv + 1) + tallyAt (barCell (⟨dv, hlt hcond⟩ : Dev nD)) () 1 := by
      rw [Osig_step c hn]; unfold oweB; rw [if_neg (fun e => hne (congrArg Fin.val e).symm)]
    rw [hOs, dif_pos hcond]
    show _ ⊢ wp frame (wpE (defs₀ (F := F)) 𝒱₀ (c : Thread nD τ) none) Set.univ
      (.op (.semSignal (((⟨dv, hlt hcond⟩ : Dev nD) : Thread nD τ)) barS (1#32 : BitVec 32).toInt) fun _ => jp) Q
    iintro ⟨⟨#HK, ⟨%W, HO⟩, ⟨Ht, Hp⟩, Hrest⟩, HR⟩
    ihave Hr := (record_bar m ρ K (⟨dv, hlt hcond⟩ : Dev nD)) $$ HK
    icases Hr with ⟨#HI, #Hre⟩
    iapply (Rounds.wp_signal 𝒱₀ ER (sched m ρ) (c : Thread nD τ) none (dst := ((⟨dv, hlt hcond⟩ : Dev nD) : Thread nD τ))
        (κ := K ((⟨dv, hlt hcond⟩ : Dev nD), bIx)) (d := c)
        (by rw [duties_bar]; exact Finset.mem_erase.mpr ⟨fun e => hne (congrArg Fin.val e), Finset.mem_univ _⟩)
        ((amount_bar m ρ _ c).trans (by decide)) () (Osig c (dv + 1))
        rfl)
      $$ [HO Ht Hp]
    · isplitr; · iexact HI
      isplitl [HO]; · iexact HO
      isplitl [Ht]; · iexact Ht
      isplitl [Hp]; · rw [payload_bar]; iexact Hp
      iexact Hre
    iintro HO
    iapply h
    isplitl [HO Hrest]
    · isplitr; · iexact HK
      isplitl [HO]; · iexists W; iexact HO
      iexact Hrest
    · iexact HR
  · rw [dif_neg hcond]
    have he : c.val = dv := by by_contra hne; exact hcond (hc.mpr hne)
    have hO : Osig c dv = Osig c (dv + 1) := by
      rw [Osig_step c hn]; unfold oweB; rw [if_pos (Fin.ext he.symm), add_zero]
    rw [hO]
    refine BIBase.Entails.trans ?_ h
    iintro ⟨⟨HK, HO, -, Hrest⟩, HR⟩
    isplitl [HK HO Hrest]
    · isplitl [HK]; · iexact HK
      isplitl [HO] <;> iassumption
    · iexact HR

theorem amount_slot (k : Fin 31) (s : DmaSem sig) : (slot k).view.amount (.dma s : SemLoc sig) = N := rfl

/-- One copy, to the device `d = up c k`: it takes the lent share and the slot, and leaves the credit to wait for it. -/
theorem wp_row (k : Fin 31) (hk : c.val + k.val + 1 < 32) (d : Dev nD) (hd : d = up c k) {hsc : (slot k : Memref sig (Dev.tc d : Thread nD τ).2.kind .vmem S1x256 .f32).view.ref.isScScratch = false}
    {hsrc : (tM : Memref sig .tc .vmem S1x256 .f32).view.WordExact} {hdst : (slot k).view.WordExact}
    {hsem : DmaTarget.Typed .vmem (.dma (recvS k)) (.remote (Dev.tc d : Thread nD τ) (slot k : Memref sig .tc .vmem S1x256 .f32) (.dma (sendS k)) hsc)}
    {kk : PUnit → Prog (TpuEff nD τ sig (Elt F) Λ₀ .tc) α}
    (f : Buf (Elt F) ((up c k : Thread nD τ).loc cc0_scratch0)) (W : Waits sig Unit) (O : CellTallies nD τ sig Unit) :
    iprop(cellInv ER (sched m ρ) (K (c, sIx k)) (sendCell c k) ∗ cellInv ER (sched m ρ) (K (up c k, rIx k)) (recvCell (up c k) k)
        ∗ srcPts m ρ c k ∗ slotPts (up c k) k f
        ∗ owes (c : Thread nD τ) (O + tallyAt (recvCell (up c k) k) () N) W
        ∗ dutyTok ER (sendCell c k) 0 d₀ ∗ reached ER (sendCell c k) 0
        ∗ dutyTok ER (recvCell (up c k) k) 0 d₀ ∗ reached ER (recvCell (up c k) k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma tM (.remote (Dev.tc d : Thread nD τ) (slot k) (.dma (sendS k)) hsc) (.dma (recvS k)) hsrc hdst hsem) kk) Q) := by
  subst hd
  have hrk : k.val < (up c k).val := by rw [up_val hk]; omega
  have hset : (tM : Memref sig .tc .vmem S1x256 .f32).view.set = Finset.univ := View.set_whole _
  have e1 : (srcPts m ρ c k : sProp 𝕄)
      = ((tM : Memref sig .tc .vmem S1x256 .f32).view.loc (c : Thread nD τ) ↦[(tM : Memref sig .tc .vmem S1x256 .f32).view.set]{Transfers.shareTok fullShare 31 k} tot m ρ c) := by
    unfold srcPts; rw [hset]
  rw [e1]
  unfold slotPts slotSet
  refine Rounds.wp_send_pointsTo 𝒱₀ ER (sched m ρ) (c : Thread nD τ) none (c' := (up c k : Thread nD τ)) (src := tM) (dst := slot k) (sS := .dma (sendS k)) (sem := .dma (recvS k)) (hsrc := hsrc) (hdst := hdst) (hsem := hsem) (q := Transfers.shareTok fullShare 31 k) (fs := tot m ρ c) (κ₁ := K (c, sIx k)) (κ₂ := K (up c k, rIx k))
    (r₁ := 0) (r₂ := 0) (d₁ := d₀) (d₂ := d₀) (fd := f)
    (by rw [duties_send, if_pos hk]; exact Finset.mem_singleton_self _) (by rw [duties_recv, if_pos hrk]; exact Finset.mem_singleton_self _)
    () () N (amount_slot k _) (amount_send m ρ c k d₀) (amount_recv m ρ (up c k) k d₀) O rfl (W := W)
    (by rw [payload_send, e1])
    ?_
  rw [payload_recv]
  unfold slotPts slotSet
  refine Entails.of_eq (pointsTo_congr ?_)
  have := slot_landed m ρ (up c k) k f
  rw [dn_up] at this
  exact this

/-- A copy of the total to slot `n` of the device `n + 1` places after, if there is one. -/
theorem send_step {n : ℕ} (hn : n < 31) {p : Prop} {inst : Decidable p}
    (hc : Iff p (c.val + n + 1 < 32)) {dv : ℕ} {hlt : p → dv < nD}
    (hdv : dv = (c.val + n + 1) % 32)
    {sS sR : DmaSem sig} (hsS : sS = sendS ⟨n, hn⟩) (hsR : sR = recvS ⟨n, hn⟩)
    {dst : Memref sig .tc .vmem S1x256 .f32} (hdst : dst = slot ⟨n, hn⟩)
    {hsc : ∀ hh : p, dst.view.ref.isScScratch = false}
    {hw : p → (tM : Memref sig .tc .vmem S1x256 .f32).view.WordExact} {hw' : p → dst.view.WordExact}
    {hty : ∀ hh : p, DmaTarget.Typed .vmem (.dma sR) (.remote (Dev.tc (⟨dv, hlt hh⟩ : Dev nD) : Thread nD τ) dst (.dma sS) (hsc hh))}
    (h : Runs c iprop(SendSt m ρ K c (n + 1) ∗ R) jp Q) :
    Runs c iprop(SendSt m ρ K c n ∗ R)
      (dite p (fun hh => Prog.lift (.enqueueDma tM (.remote (Dev.tc (⟨dv, hlt hh⟩ : Dev nD) : Thread nD τ) dst (.dma sS) (hsc hh)) (.dma sR) (hw hh) (hw' hh) (hty hh))
        >>= fun _ => jp) fun _ => jp) Q := by
  unfold Runs at *
  subst hsS hsR hdst
  unfold SendSt at *
  rw [bigSep_uptoN hn] at h
  rw [bigSep_fromN hn]
  by_cases hcond : p
  · have hlt1 : c.val + (⟨n, hn⟩ : Fin 31).val + 1 < 32 := hc.mp hcond
    have hdev : (⟨dv, hlt hcond⟩ : Dev nD) = up c ⟨n, hn⟩ := Fin.ext (hdv)
    have hO : Osend c n = Osend c (n + 1) + tallyAt (recvCell (up c ⟨n, hn⟩) ⟨n, hn⟩) () N := by
      rw [Osend_step c hn]; unfold oweC; rw [if_pos hlt1]
    rw [dif_pos hcond, hO]
    show _ ⊢ wp frame (wpE (defs₀ (F := F)) 𝒱₀ (c : Thread nD τ) none) Set.univ
      (.op (.enqueueDma tM (.remote (Dev.tc (⟨dv, hlt hcond⟩ : Dev nD) : Thread nD τ) (slot ⟨n, hn⟩) (.dma (sendS ⟨n, hn⟩)) (hsc hcond)) (.dma (recvS ⟨n, hn⟩)) (hw hcond) (hw' hcond) (hty hcond)) fun _ => jp) Q
    unfold sendB at h; rw [if_pos hlt1] at h
    unfold sendA; rw [if_pos hlt1]
    iintro ⟨⟨#HK, ⟨%W, HO⟩, ⟨⟨Hsrc, Ht1, Ht2, ⟨%f, Hsl⟩⟩, Hrest⟩, Hup⟩, HR⟩
    ihave Hr1 := (record_send m ρ K c ⟨n, hn⟩) $$ HK
    icases Hr1 with ⟨#HI1, #Hre1⟩
    ihave Hr2 := (record_recv m ρ K (up c ⟨n, hn⟩) ⟨n, hn⟩) $$ HK
    icases Hr2 with ⟨#HI2, #Hre2⟩
    iapply (wp_row m ρ K c ⟨n, hn⟩ hlt1 _ hdev f W (Osend c (n + 1))) $$ [HO Hsrc Ht1 Ht2 Hsl]
    · isplitr; · iexact HI1
      isplitr; · iexact HI2
      isplitl [Hsrc]; · iexact Hsrc
      isplitl [Hsl]; · iexact Hsl
      isplitl [HO]; · iexact HO
      isplitl [Ht1]; · iexact Ht1
      isplitr; · iexact Hre1
      isplitl [Ht2]; · iexact Ht2
      iexact Hre2
    iintro ⟨Hcr, HO⟩
    iapply h
    isplitl [HO Hrest Hcr Hup]
    · isplitr; · iexact HK
      isplitl [HO]; · iexists W; iexact HO
      isplitl [Hrest]; · iexact Hrest
      isplitl [Hcr]; · iexact Hcr
      iexact Hup
    · iexact HR
  · have hnlt : ¬ c.val + (⟨n, hn⟩ : Fin 31).val + 1 < 32 := fun h' => hcond (hc.mpr h')
    have hO : Osend c n = Osend c (n + 1) := by
      rw [Osend_step c hn]; unfold oweC; rw [if_neg hnlt, add_zero]
    rw [dif_neg hcond, hO]
    refine BIBase.Entails.trans ?_ h
    unfold sendA sendB; rw [if_neg hnlt, if_neg hnlt]
    iintro ⟨⟨HK, HO, ⟨⟨Hsrc, -⟩, Hrest⟩, Hup⟩, HR⟩
    isplitl [HK HO Hrest Hsrc Hup]
    · isplitl [HK]; · iexact HK
      isplitl [HO]; · iexact HO
      isplitl [Hrest]; · iexact Hrest
      isplitl [Hsrc]; · iexact Hsrc
      iexact Hup
    · iexact HR

/-- A wait for the row of the device `n + 1` places before, if there is one; its cell closes either way. -/
theorem recv_step {n : ℕ} (hn : n < 31) {p : Prop} {inst : Decidable p}
    (hc : Iff p (n < c.val))
    {sR : DmaSem sig} (hsR : sR = recvS ⟨n, hn⟩)
    {dst : Memref sig .tc .vmem S1x256 .f32} (hdst : dst = slot ⟨n, hn⟩)
    {hw : p → (tM : Memref sig .tc .vmem S1x256 .f32).view.WordExact} {hw' : p → dst.view.WordExact}
    (h : Runs c iprop(RecvSt m ρ K c (n + 1) ∗ R) jp Q) :
    Runs c iprop(RecvSt m ρ K c n ∗ R)
      (dite p (fun hh => Prog.lift (.waitDma2 sR tM dst (hw hh) (hw' hh)) >>= fun _ => jp) fun _ => jp) Q := by
  unfold Runs at *
  subst hsR hdst
  unfold RecvSt at *
  rw [bigSep_uptoN hn] at h
  rw [bigSep_fromN hn]
  by_cases hcond : p
  · have hlt : (⟨n, hn⟩ : Fin 31).val < c.val := hc.mp hcond
    rw [dif_pos hcond]
    show _ ⊢ wp frame (wpE (defs₀ (F := F)) 𝒱₀ (c : Thread nD τ) none) Set.univ
      (.op (.waitDma2 (recvS ⟨n, hn⟩) tM (slot ⟨n, hn⟩) (hw hcond) (hw' hcond)) fun _ => jp) Q
    unfold recvB at h
    unfold recvA; rw [if_pos hlt]
    iintro ⟨⟨#HK, ⟨%W, HO⟩, ⟨⟨Hat, Hcr⟩, Hrest⟩, Hup⟩, HR⟩
    ihave Hr := (record_recv m ρ K c ⟨n, hn⟩) $$ HK
    icases Hr with ⟨#HI, -⟩
    iapply (Rounds.wp_wait_rest_token 𝒱₀ ER (sched m ρ) (c : Thread nD τ) none (κ := K (c, rIx ⟨n, hn⟩))
        (wpE_waitDma2_eq 𝒱₀ (c : Thread nD τ) none Set.univ) (Set.mem_univ _) () (O := 0) (W := W) (R := 0) (m := 0) (T := ∅)
        (by rw [Nat.zero_add, expect_recv m ρ c _ hlt])) $$ [Hcr HO Hat]
    · isplitr; · iexact HI
      isplitl [Hcr]; · iexact Hcr
      isplitl [HO]; · iexact HO
      isplitr; · rw [MayWait_zero]; iempintro
      iexact Hat
    iintro ⟨HO, Hat, -, Hpay⟩
    ihave Hsl := (Entails.of_eq (rest_recv m ρ c ⟨n, hn⟩ hlt)) $$ Hpay
    imod (Rounds.cell_close ER (sched m ρ) (Set.mem_univ (K (c, rIx ⟨n, hn⟩))) (fun h => h) (R := 0 + 1) (duties_later m ρ (recvCell c ⟨n, hn⟩))) $$ [Hat] with Hz
    · isplitr; · iexact HI
      iexact Hat
    iapply h
    isplitl [HO Hrest Hsl Hz Hup]
    · isplitr; · iexact HK
      isplitl [HO]; · iexists _; iexact HO
      isplitl [Hrest]; · iexact Hrest
      isplitl [Hsl Hz]
      · isplitl [Hz]; · iexact Hz
        iexists (landed m ρ c)
        isplitr; · ipureintro; exact fun _ => rfl
        iexact Hsl
      · iexact Hup
    · iexact HR
  · have hnlt : ¬ (⟨n, hn⟩ : Fin 31).val < c.val := fun h' => hcond (hc.mpr h')
    rw [dif_neg hcond]
    unfold recvB at h
    unfold recvA; rw [if_neg hnlt]
    iintro ⟨⟨#HK, HO, ⟨⟨Hat, ⟨%f, Hsl⟩⟩, Hrest⟩, Hup⟩, HR⟩
    ihave Hr := (record_recv m ρ K c ⟨n, hn⟩) $$ HK
    icases Hr with ⟨#HI, -⟩
    imod (Rounds.cell_close ER (sched m ρ) (Set.mem_univ (K (c, rIx ⟨n, hn⟩))) (fun h => h) (R := 0)
      (duties_none m ρ (by rw [duties_recv, if_neg hnlt]))) $$ [Hat] with Hz
    · isplitr; · iexact HI
      iexact Hat
    iapply h
    isplitl [HO Hrest Hsl Hz Hup]
    · isplitr; · iexact HK
      isplitl [HO]; · iexact HO
      isplitl [Hrest]; · iexact Hrest
      isplitl [Hsl Hz]
      · isplitl [Hz]; · iexact Hz
        iexists f
        isplitr; · ipureintro; exact fun h' => absurd h' hnlt
        iexact Hsl
      · iexact Hup
    · iexact HR

/-- A wait for the copy to the device `n + 1` places after to have finished, if there is one; its cell closes either way. -/
theorem drain_step {n : ℕ} (hn : n < 31) {p : Prop} {inst : Decidable p}
    (hc : Iff p (c.val + n + 1 < 32))
    {sS : DmaSem sig} (hsS : sS = sendS ⟨n, hn⟩)
    {src : Memref sig .tc .vmem S1x256 .f32}
    {hw : p → src.view.WordExact} {hw' : p → (tM : Memref sig .tc .vmem S1x256 .f32).view.WordExact}
    (h : Runs c iprop(DrainSt m ρ K c (n + 1) ∗ R) jp Q) :
    Runs c iprop(DrainSt m ρ K c n ∗ R)
      (dite p (fun hh => Prog.lift (.waitDma2 sS src tM (hw hh) (hw' hh)) >>= fun _ => jp) fun _ => jp) Q := by
  unfold Runs at *
  subst hsS
  unfold DrainSt at *
  rw [bigSep_uptoN hn] at h
  rw [bigSep_fromN hn]
  by_cases hcond : p
  · have hlt : c.val + (⟨n, hn⟩ : Fin 31).val + 1 < 32 := hc.mp hcond
    rw [dif_pos hcond]
    show _ ⊢ wp frame (wpE (defs₀ (F := F)) 𝒱₀ (c : Thread nD τ) none) Set.univ
      (.op (.waitDma2 (sendS ⟨n, hn⟩) src tM (hw hcond) (hw' hcond)) fun _ => jp) Q
    unfold drainB at h
    unfold drainA sendB; rw [if_pos hlt]
    iintro ⟨⟨#HK, ⟨%W, HO⟩, ⟨⟨Hat, Hcr⟩, Hrest⟩, Hup⟩, HR⟩
    ihave Hr := (record_send m ρ K c ⟨n, hn⟩) $$ HK
    icases Hr with ⟨#HI, -⟩
    iapply (Rounds.wp_wait_rest_token 𝒱₀ ER (sched m ρ) (c : Thread nD τ) none (κ := K (c, sIx ⟨n, hn⟩))
        (wpE_waitDma2_eq 𝒱₀ (c : Thread nD τ) none Set.univ) (Set.mem_univ _) () (O := 0) (W := W) (R := 0) (m := 0) (T := ∅)
        (by rw [Nat.zero_add, expect_send m ρ c _ hlt])) $$ [Hcr HO Hat]
    · isplitr; · iexact HI
      isplitl [Hcr]; · iexact Hcr
      isplitl [HO]; · iexact HO
      isplitr; · rw [MayWait_zero]; iempintro
      iexact Hat
    iintro ⟨HO, Hat, -, Hpay⟩
    ihave Hsl := (Entails.of_eq (rest_send m ρ c ⟨n, hn⟩ hlt)) $$ Hpay
    imod (Rounds.cell_close ER (sched m ρ) (Set.mem_univ (K (c, sIx ⟨n, hn⟩))) (fun h => h) (R := 0 + 1) (duties_later m ρ (sendCell c ⟨n, hn⟩))) $$ [Hat] with Hz
    · isplitr; · iexact HI
      iexact Hat
    iapply h
    isplitl [HO Hrest Hsl Hz Hup]
    · isplitr; · iexact HK
      isplitl [HO]; · iexists _; iexact HO
      isplitl [Hrest]; · iexact Hrest
      isplitl [Hsl Hz]
      · isplitl [Hz]; · iexact Hz
        iexact Hsl
      · iexact Hup
    · iexact HR
  · have hnlt : ¬ c.val + (⟨n, hn⟩ : Fin 31).val + 1 < 32 := fun h' => hcond (hc.mpr h')
    rw [dif_neg hcond]
    unfold drainB at h
    unfold drainA sendB; rw [if_neg hnlt]
    iintro ⟨⟨#HK, HO, ⟨⟨Hat, Hsl⟩, Hrest⟩, Hup⟩, HR⟩
    ihave Hr := (record_send m ρ K c ⟨n, hn⟩) $$ HK
    icases Hr with ⟨#HI, -⟩
    imod (Rounds.cell_close ER (sched m ρ) (Set.mem_univ (K (c, sIx ⟨n, hn⟩))) (fun h => h) (R := 0)
      (duties_none m ρ (by rw [duties_send, if_neg hnlt]))) $$ [Hat] with Hz
    · isplitr; · iexact HI
      iexact Hat
    iapply h
    isplitl [HO Hrest Hsl Hz Hup]
    · isplitr; · iexact HK
      isplitl [HO]; · iexact HO
      isplitl [Hrest]; · iexact Hrest
      isplitl [Hsl Hz]
      · isplitl [Hz]; · iexact Hz
        iexact Hsl
      · iexact Hup
    · iexact HR

end Step

end Cert.Scan

end
-- ==== Proof.Middle.lean ====
/-
# Between the four kinds of step

The barrier wait, the loads and stores, and how what a device holds is rearranged between one run of conditionals and
the next.
-/
module

public import proofs.«01_k».proof.Proof.Steps
public import Idealize.ShloMosaic.Lib.ValueIdxCore
public import Idealize.ShloMosaic.Lib.Pipeline.Value

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 63 → ℕ)

/-- The word of a device's number. -/
abbrev w2 (c : Dev nD) : BitVec 32 := Scalar.remsi (Scalar.divsi (Dev.word c) 1#32) 32#32

abbrev barA : Sems sig S_ := SemArray.scalar (sig.barrier 0 rfl)

section Generic

variable {α β : Type} (c : Dev nD) {P P' : sProp (MT nD τ sig Unit (Elt F) ℕ UU ℕ)} {Q : α → sProp (MT nD τ sig Unit (Elt F) ℕ UU ℕ)}

theorem Runs.ret {v : α} (h : P ⊢ Q v) : Runs (F := F) c P (.ret v) Q := by
  unfold Runs; rw [wp_ret]
  exact h.trans (by iintro H; imodintro; iexact H)

theorem Runs.bind {p : Prog (TpuEff nD τ sig (Elt F) Λ₀ .tc) β} {k : β → Prog (TpuEff nD τ sig (Elt F) Λ₀ .tc) α}
    (h : Runs c P p fun r => wp frame (wpE (defs₀ (F := F)) 𝒱₀ (c : Thread nD τ) none) Set.univ (k r) Q) : Runs c P (p >>= k) Q := by
  unfold Runs at *; rw [wp_bind]; exact h

theorem Runs.pre {p : Prog (TpuEff nD τ sig (Elt F) Λ₀ .tc) α} (hP : P ⊢ P') (h : Runs c P' p Q) : Runs c P p Q := by
  unfold Runs at *; exact hP.trans h

end Generic

/-! ## What is held beside the conditionals -/

/-- Device `c`'s rows, as staged. -/
def xPts (c : Dev nD) : sProp 𝕄 := ((c : Thread nD τ).loc cc0_stg0_0) ↦{fullShare} xstg m ρ c
/-- A share of device `c`'s total. -/
def tPts (c : Dev nD) (q : PosShare TreeShare) : sProp 𝕄 := ((c : Thread nD τ).loc cc0_scratch1) ↦{q} tot m ρ c
def tAny (c : Dev nD) : sProp 𝕄 := iprop(∃ f, ((c : Thread nD τ).loc cc0_scratch1) ↦{fullShare} f)
def cPts (c : Dev nD) (g : (cc0_scratch0 : Ref sig .tc).ty.Contents (Elt F)) : sProp 𝕄 := ((c : Thread nD τ).loc cc0_scratch0) ↦{fullShare} g
def oPts (c : Dev nD) (g : (cc0_stg1_0 : Ref sig .tc).ty.Contents (Elt F)) : sProp 𝕄 := ((c : Thread nD τ).loc cc0_stg1_0) ↦{fullShare} g
def oAny (c : Dev nD) : sProp 𝕄 := iprop(∃ g, oPts (F := F) c g)

/-- The two tokens of copy `k`, if there is a device for it. -/
def sendTok (c : Dev nD) (k : Fin 31) : sProp 𝕄 :=
  if c.val + k.val + 1 < 32 then iprop(dutyTok ER (sendCell c k) 0 d₀ ∗ dutyTok ER (recvCell (up c k) k) 0 d₀) else iprop(emp)
/-- The slot copy `k` fills, if there is a device for it. -/
def sendSlot (c : Dev nD) (k : Fin 31) : sProp 𝕄 := if c.val + k.val + 1 < 32 then iprop(∃ f, slotPts (up c k) k f) else iprop(emp)

/-- What the barrier wait needs, and the tokens of the copies. -/
def barW (c : Dev nD) : sProp 𝕄 :=
  iprop(cred (tallyAt (barCell c) () 31) ∗ atPos ER (barCell c) 0 ∅ 0 ∗ levAts L lv ∗ bigSep Finset.univ (sendTok (F := F) c))

/-- From the barrier wait on: the rows, the share of the total that is not lent, the barrier's counter at zero. -/
def E2 (c : Dev nD) : sProp 𝕄 := iprop(xPts m ρ c ∗ tPts m ρ c (Transfers.shareDrop fullShare 31) ∗ semVal (barCell c) 0)
/-- From the last landed row on: also the whole landing buffer and the receive counters at zero. -/
def E3 (c : Dev nD) (g : (cc0_scratch0 : Ref sig .tc).ty.Contents (Elt F)) : sProp 𝕄 :=
  iprop(E2 m ρ c ∗ (bigSep Finset.univ fun k => semVal (recvCell c k) 0) ∗ cPts c g)

/-! ## The rearrangements -/

omit [FloatOps F] in
theorem up_inj (c : Dev nD) : Function.Injective (up c) := by
  intro k k' h
  have h1 := congrArg Fin.val h
  have := c.isLt; have := k.isLt; have := k'.isLt; have hD : nD = 32 := rfl
  apply Fin.ext; simp only [up] at h1; omega

theorem image_up (c : Dev nD) : (Finset.univ.image (up c)) = Finset.univ.erase c := by revert c; decide +kernel

omit [FloatOps F] in
theorem barPay_up (c : Dev nD) (k : Fin 31) : (barPay c (up c k) : sProp 𝕄) = sendSlot c k := by
  have hk := k.isLt; have hc := c.isLt; have hD : nD = 32 := rfl
  unfold barPay sendSlot
  by_cases h : c.val + k.val + 1 < 32
  · have hv := up_val h
    rw [if_pos h, if_pos (by omega)]
    have : slotIx (up c k) c = k := by apply Fin.ext; rw [slotIx_val (by omega)]; omega
    rw [this]
  · have hv : (up c k).val = c.val + k.val + 1 - 32 := by simp only [up]; omega
    rw [if_neg h, if_neg (by omega)]

omit [FloatOps F] in
theorem bar_slots (c : Dev nD) : bigSep (Finset.univ.erase c) (fun d => (barPay c d : sProp 𝕄)) = bigSep Finset.univ (sendSlot (F := F) c) := by
  rw [← image_up, bigSep_image_of_injOn (up_inj c).injOn]
  exact congrArg _ (funext fun k => barPay_up c k)

theorem sendA_intro (c : Dev nD) (k : Fin 31) : iprop(srcPts m ρ c k ∗ sendTok c k ∗ sendSlot c k) ⊢ (sendA m ρ c k : sProp 𝕄) := by
  unfold sendA sendTok sendSlot
  split
  · iintro ⟨H1, ⟨H2, H3⟩, H4⟩
    isplitl [H1]; · iexact H1
    isplitl [H2]; · iexact H2
    isplitl [H3]; · iexact H3
    iexact H4
  · iintro ⟨H1, -, -⟩
    isplitl [H1]; · iexact H1
    iempintro

theorem sendA_all (c : Dev nD) :
    iprop((bigSep Finset.univ fun k => srcPts m ρ c k) ∗ bigSep Finset.univ (sendTok (F := F) c) ∗ bigSep Finset.univ (sendSlot (F := F) c))
      ⊢ bigSep Finset.univ (sendA m ρ c) := by
  rw [← bigSep_sep', ← bigSep_sep']
  exact bigSep_mono fun k _ => sendA_intro m ρ c k

/-- The copies done, the waits for the landed rows begin. -/
theorem recv_enter (c : Dev nD) (R : sProp 𝕄) :
    iprop(SendSt m ρ K c 31 ∗ E2 m ρ c ∗ bigSep Finset.univ (recvA (F := F) c) ∗ R)
      ⊢ iprop(RecvSt m ρ K c 0 ∗ E2 m ρ c ∗ bigSep Finset.univ (sendB m ρ c) ∗ R) := by
  unfold SendSt RecvSt
  rw [Osend_top, fromN_top, uptoN_top, fromN_zero, uptoN_zero, bigSep_empty, bigSep_empty]
  iintro ⟨⟨HK, HO, -, HB⟩, HE, HA, HR⟩
  isplitl [HK HO HA]
  · isplitl [HK]; · iexact HK
    isplitl [HO]; · iexact HO
    isplitl [HA]; · iexact HA
    iempintro
  isplitl [HE]; · iexact HE
  isplitl [HB]; · iexact HB
  iexact HR

/-- The slots, each at what it holds, are the landing buffer, which on the slots filled holds what landed. -/
theorem slots_join (c : Dev nD) :
    (bigSep Finset.univ fun k : Fin 31 => iprop(∃ f, ⌜k.val < c.val → f = landed m ρ c⌝ ∗ slotPts (F := F) c k f))
      ⊢ iprop(∃ g, ⌜∀ i : S31x1x256.Idx, (i 0).val < c.val → g i = landed m ρ c i⌝ ∗ cPts c g) := by
  refine (bigSep_exists_pi Finset.univ fun (k : Fin 31) (f : Buf (Elt F) ((c : Thread nD τ).loc cc0_scratch0)) =>
    iprop(⌜k.val < c.val → f = landed m ρ c⌝ ∗ slotPts (F := F) c k f)).trans ?_
  iintro ⟨%fs, H⟩
  ihave H := (bigSep_pure_sep Finset.univ (fun k : Fin 31 => k.val < c.val → fs k = landed m ρ c) fun k => slotPts (F := F) c k (fs k)) $$ H
  icases H with ⟨%hp, H⟩
  unfold slotPts cPts
  ihave H := (pointsTo_biUnion_join (ℓ := (c : Thread nD τ).loc cc0_scratch0) (q := fullShare) Finset.univ slotSet fs (landed m ρ c) (fun k _ k' _ h => slot_disjoint k k' h)) $$ H
  icases H with ⟨%g, %hg, H⟩
  iexists g
  isplitr
  · ipureintro
    intro i hi
    have h1 := hg (i 0) (Finset.mem_univ _) i ((mem_slot _ i).mpr rfl)
    rw [h1, hp (i 0) (Finset.mem_univ _) hi]
  · rw [slot_cover]; iexact H

/-- The landed rows in, the waits for the finished copies begin. -/
theorem drain_enter (c : Dev nD) (R : sProp 𝕄) :
    iprop(RecvSt m ρ K c 31 ∗ E2 m ρ c ∗ bigSep Finset.univ (sendB m ρ c) ∗ (bigSep Finset.univ fun k => atPos ER (sendCell c k) 0 ∅ 0) ∗ R)
      ⊢ iprop(∃ g, ⌜∀ i : S31x1x256.Idx, (i 0).val < c.val → g i = landed m ρ c i⌝ ∗ DrainSt m ρ K c 0 ∗ E3 m ρ c g ∗ R) := by
  unfold RecvSt DrainSt E3
  rw [fromN_top, uptoN_top, fromN_zero, uptoN_zero, bigSep_empty, bigSep_empty]
  unfold recvB drainA
  rw [bigSep_sep', bigSep_sep']
  iintro ⟨⟨HK, HO, -, Hz, Hs⟩, HE, HB, HA, HR⟩
  ihave Hs := (slots_join m ρ c) $$ Hs
  icases Hs with ⟨%g, %hg, Hs⟩
  iexists g
  isplitr; · ipureintro; exact hg
  isplitl [HK HO HA HB]
  · isplitl [HK]; · iexact HK
    isplitl [HO]; · iexact HO
    isplitl [HA HB]
    · isplitl [HA]; · iexact HA
      iexact HB
    iempintro
  isplitl [HE Hz Hs]
  · isplitl [HE]; · iexact HE
    isplitl [Hz]; · iexact Hz
    iexact Hs
  iexact HR

/-! ## The steps between -/

section Step

variable {α : Type} {Q : α → sProp (MT nD τ sig Unit (Elt F) ℕ UU ℕ)} {jp : Prog (TpuEff nD τ sig (Elt F) Λ₀ .tc) α} {R S : sProp (MT nD τ sig Unit (Elt F) ℕ UU ℕ)} (c : Dev nD)

/-- The barrier wait: every later device's slot for this one comes with it; the total is lent to the copies. -/
theorem wait_step (h : Runs c iprop(SendSt m ρ K c 0 ∗ E2 m ρ c ∗ R) jp Q) :
    Runs c iprop(SigSt m ρ K c 32 ∗ xPts m ρ c ∗ tPts m ρ c fullShare ∗ barW c ∗ R) (semWaitWord barS 31#32 >>= fun _ => jp) Q := by
  unfold Runs at *
  show _ ⊢ wp frame (wpE (defs₀ (F := F)) 𝒱₀ (c : Thread nD τ) none) Set.univ (.op (.semWait barS (31#32 : BitVec 32).toInt) fun _ => jp) Q
  unfold SigSt barW
  rw [Osig_top, fromN_top, bigSep_empty]
  iintro ⟨⟨#HK, ⟨%W, HO⟩, -⟩, Hx, Ht, ⟨Hcr, Hat, #Hlev, Htok⟩, HR⟩
  ihave Hr := (record_bar m ρ K c) $$ HK
  icases Hr with ⟨#HI, -⟩
  iapply (Rounds.wp_wait_rest_token 𝒱₀ ER (sched m ρ) (c : Thread nD τ) none (κ := K (c, bIx))
      (wpE_semWait_eq 𝒱₀ (c : Thread nD τ) none Set.univ) (Set.mem_univ _) () (O := Osend c 0) (W := W) (R := 0) (m := 0) (T := ∅)
      (by rw [expect_bar]; decide)) $$ [Hcr HO Hat]
  · isplitr; · iexact HI
    isplitl [Hcr]; · iexact Hcr
    isplitl [HO]; · iexact HO
    isplitr; · iapply (mayWait_bar c); iexact Hlev
    iexact Hat
  iintro ⟨HO, Hat, -, Hpay⟩
  ihave Hsl := (Entails.of_eq ((rest_bar m ρ c).trans (bar_slots c))) $$ Hpay
  imod (Rounds.cell_close ER (sched m ρ) (Set.mem_univ (K (c, bIx))) (fun h => h) (R := 0 + 1) (duties_later m ρ (barCell c))) $$ [Hat] with Hz
  · isplitr; · iexact HI
    iexact Hat
  iapply h
  unfold SendSt E2
  rw [fromN_zero, uptoN_zero, bigSep_empty]
  unfold tPts
  ihave Ht := (Transfers.pointsTo_toks_split fullShare 31) $$ Ht
  icases Ht with ⟨Hd, Ht⟩
  isplitl [HO Hsl Htok Ht]
  · isplitr; · iexact HK
    isplitl [HO]; · iexists _; iexact HO
    isplitl [Hsl Htok Ht]
    · iapply (sendA_all m ρ c)
      isplitl [Ht]; · unfold srcPts; iexact Ht
      isplitl [Htok]; · iexact Htok
      iexact Hsl
    iempintro
  isplitl [Hx Hd Hz]
  · isplitl [Hx]; · iexact Hx
    isplitl [Hd]; · iexact Hd
    iexact Hz
  iexact HR

theorem hz2 : (![0, 0] : Fin 2 → ℕ) = fun _ => 0 := by funext a; fin_cases a <;> rfl
theorem hz3 : (![0, 0, 0] : Fin 3 → ℕ) = fun _ => 0 := by funext a; fin_cases a <;> rfl

/-- The rows are loaded and the total stored. -/
theorem total_step {kk : Vec F S256x256 .bf16 → Prog (TpuEff nD τ sig (Elt F) Λ₀ .tc) α} {hl hl' hs hu}
    (h : Runs c iprop(S ∗ xPts m ρ c ∗ tPts m ρ c fullShare ∗ R) (kk (xstg m ρ c)) Q) :
    Runs c iprop(S ∗ xPts m ρ c ∗ tAny c ∗ R)
      (Prog.lift (.load xM (Rect.unit (s := S256x256) ![0, 0] S256x256.size inb_S256x256_S256x256_0_0).toLoadRect hl) >>= fun v =>
        Prog.lift (.load tM (Rect.unit (s := S1x256) ![0, 0] S1x256.size inb_S1x256_S1x256_0_0).toLoadRect hl') >>= fun _ =>
        Prog.lift (.store tM (Rect.unit (s := S1x256) ![0, 0] S1x256.size inb_S1x256_S1x256_0_0) (k0_pay2 v) Finset.univ hs hu) >>= fun _ => kk v) Q := by
  unfold Runs at *
  unfold tAny
  iintro ⟨HS, Hx, ⟨%f, Ht⟩, HR⟩
  unfold xPts
  simp only [Prog.lift, Prog.bind_op, Prog.bind_ret]
  iapply (wp_load 𝒱₀ (c : Thread nD τ) none Set.univ (m := xM) (Finset.subset_univ _)) $$ Hx; iintro Hx
  rw [show (xM : Memref sig .tc .vmem S256x256 .bf16).view.readAt (Elt F) (Rect.unit (s := S256x256) ![0, 0] S256x256.size inb_S256x256_S256x256_0_0).toLoadRect (xstg m ρ c) = xstg m ρ c
    from Memref.readAt_unit_zero (Elt F) cc0_stg0_0 hz2 _ _]
  iapply (wp_load 𝒱₀ (c : Thread nD τ) none Set.univ (m := tM) (Finset.subset_univ _)) $$ Ht; iintro Ht
  iapply (wp_store 𝒱₀ (c : Thread nD τ) none Set.univ (m := tM) (r := Rect.unit (s := S1x256) ![0, 0] S1x256.size inb_S1x256_S1x256_0_0) (Mk := Finset.univ) (Finset.subset_univ _)) $$ Ht; iintro Ht
  rw [show ((tM : Memref sig .tc .vmem S1x256 .f32).access (Rect.unit (s := S1x256) ![0, 0] S1x256.size inb_S1x256_S1x256_0_0) : View sig .tc _ _ _).write (Elt F) f (k0_pay2 (xstg m ρ c)) Finset.univ = tot m ρ c
    from Memref.write_access_unit_zero_univ (Elt F) cc0_scratch1 hz2 _ f _]
  iapply h
  isplitl [HS]; · iexact HS
  unfold xPts tPts
  isplitl [Hx]; · iexact Hx
  isplitl [Ht]; · iexact Ht
  iexact HR

/-- The landing buffer is loaded whole. -/
theorem land_step {kk : Vec F S31x1x256 .f32 → Prog (TpuEff nD τ sig (Elt F) Λ₀ .tc) α} {hl}
    (h : ∀ g, (∀ i : S31x1x256.Idx, (i 0).val < c.val → g i = landed m ρ c i) → Runs c iprop(DrainSt m ρ K c 0 ∗ E3 m ρ c g ∗ R) (kk g) Q) :
    Runs c iprop(RecvSt m ρ K c 31 ∗ E2 m ρ c ∗ bigSep Finset.univ (sendB m ρ c) ∗ (bigSep Finset.univ fun k => atPos ER (sendCell c k) 0 ∅ 0) ∗ R)
      (Prog.lift (.load cM (Rect.unit (s := S31x1x256) ![0, 0, 0] S31x1x256.size inb_S31x1x256_S31x1x256_0_0_0).toLoadRect hl) >>= kk) Q := by
  refine Runs.pre c (drain_enter m ρ K c R) ?_
  unfold Runs E3 at *
  simp only [Prog.lift, Prog.bind_op, Prog.bind_ret]
  iintro ⟨%g, %hg, HD, ⟨HE, Hz, Hc⟩, HR⟩
  unfold cPts
  iapply (wp_load 𝒱₀ (c : Thread nD τ) none Set.univ (m := cM) (Finset.subset_univ _)) $$ Hc; iintro Hc
  rw [show (cM : Memref sig .tc .vmem S31x1x256 .f32).view.readAt (Elt F) (Rect.unit (s := S31x1x256) ![0, 0, 0] S31x1x256.size inb_S31x1x256_S31x1x256_0_0_0).toLoadRect g = g
    from Memref.readAt_unit_zero (Elt F) cc0_scratch0 hz3 _ _]
  iapply (h g hg)
  isplitl [HD]; · iexact HD
  unfold cPts
  isplitl [HE Hz Hc]
  · isplitl [HE]; · iexact HE
    isplitl [Hz]; · iexact Hz
    iexact Hc
  iexact HR

/-- The result is stored. -/
theorem out_step {w : Vec F S256x256 .f32} {hl hs hu} (h : Runs c iprop(S ∗ R ∗ oPts c w) jp Q) :
    Runs c iprop(S ∗ R ∗ oAny c)
      (Prog.lift (.load oM (Rect.unit (s := S256x256) ![0, 0] S256x256.size inb_S256x256_S256x256_0_0).toLoadRect hl) >>= fun _ =>
        Prog.lift (.store oM (Rect.unit (s := S256x256) ![0, 0] S256x256.size inb_S256x256_S256x256_0_0) w Finset.univ hs hu) >>= fun _ => jp) Q := by
  unfold Runs at *
  unfold oAny oPts at *
  iintro ⟨HS, HR, ⟨%f, Ho⟩⟩
  simp only [Prog.lift, Prog.bind_op, Prog.bind_ret]
  iapply (wp_load 𝒱₀ (c : Thread nD τ) none Set.univ (m := oM) (Finset.subset_univ _)) $$ Ho; iintro Ho
  iapply (wp_store 𝒱₀ (c : Thread nD τ) none Set.univ (m := oM) (r := Rect.unit (s := S256x256) ![0, 0] S256x256.size inb_S256x256_S256x256_0_0) (Mk := Finset.univ) (Finset.subset_univ _)) $$ Ho; iintro Ho
  rw [show ((oM : Memref sig .tc .vmem S256x256 .f32).access (Rect.unit (s := S256x256) ![0, 0] S256x256.size inb_S256x256_S256x256_0_0) : View sig .tc _ _ _).write (Elt F) f w Finset.univ = w
    from Memref.write_access_unit_zero_univ (Elt F) cc0_stg1_0 hz2 _ f _]
  iapply h
  isplitl [HS]; · iexact HS
  isplitl [HR]; · iexact HR
  iexact Ho

end Step

/-! ## The result does not depend on the slots that were not filled -/

/-- What is stored: the scanned rows times the product of the rows of the landing buffer, those from `w` on replaced by ones. -/
def outOf (v178 : FVec F S256x256 .f32) (w : BitVec 32) (g : Vec F S31x1x256 .f32) : FVec F S256x256 .f32 :=
  k0_pay34 v178 (k0_pay8 w g) (k0_pay9 w g) (k0_pay10 w g) (k0_pay11 w g) (k0_pay12 w g) (k0_pay13 w g) (k0_pay14 w g) (k0_pay15 w g) (k0_pay16 w g) (k0_pay17 w g) (k0_pay18 w g) (k0_pay19 w g) (k0_pay20 w g) (k0_pay21 w g) (k0_pay22 w g) (k0_pay23 w g) (k0_pay24 w g) (k0_pay25 w g) (k0_pay26 w g) (k0_pay27 w g) (k0_pay28 w g) (k0_pay29 w g) (k0_pay30 w g) (k0_pay31 w g) (k0_pay32 w g) (k0_pay33 w g)

theorem outOf_congr {v178 : FVec F S256x256 .f32} {w : BitVec 32} {g g' : Vec F S31x1x256 .f32} (h : k0_pay8 w g = k0_pay8 w g') :
    outOf v178 w g = outOf v178 w g' := by
  unfold outOf k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33
  rw [h]

/-- The mask of the landing buffer's rows: row `r` is kept on the devices after the `r`-th. -/
theorem mask_word (c : Dev nD) (r : Fin 31) : Scalar.cmpi .slt (BitVec.ofNat 32 r.val) (w2 c) = if r.val < c.val then 1#1 else 0#1 := by
  revert c r; decide +kernel

/-- The index of the landing buffer at a row and column of its two-dimensional reading. -/
def rowIx (i : S31x256.Idx) : S31x1x256.Idx := ValueIdx.ix3 (i 0) (0 : Fin 1) (i 1)

/-- The two-dimensional reading of the landing buffer. -/
theorem cast_rows {α : Type} (f : S31x1x256.Idx → α) (i : S31x256.Idx) :
    shapeCast S31x256 f shapeCasts_S31x1x256_S31x256 i = f (rowIx i) := by
  refine shapeCast_apply f _ i (rowIx i) ?_
  rw [Shape.rowMajor_val_three, Shape.rowMajor_val_two]
  show ((i 0).val * 1 + 0) * 256 + (i 1).val = (i 0).val * 256 + (i 1).val
  omega

/-- The mask of the rows, read at an index. -/
theorem mask_apply (c : Dev nD) (i : S31x256.Idx) :
    cmpi .slt (iota .tc S31x256 32 [0] iota_S31x256_d0_w32) (broadcast S31x256 (w2 c)) i = if (i 0).val < c.val then 1#1 else 0#1 := by
  refine Eq.trans ?_ (mask_word c (i 0))
  show IntOp.cmpi .slt (BitVec.ofNat 32 (0 * 31 + (i 0).val)) (w2 c) = _
  rw [Nat.zero_mul, Nat.zero_add]
  rfl

/-- The masked rows at an index: a row before the device's own is kept, the others are ones. -/
theorem pay8_apply (c : Dev nD) (g : Vec F S31x1x256 .f32) (i : S31x256.Idx) :
    k0_pay8 (w2 c) g i = if (i 0).val < c.val then g (rowIx i) else Scalar.ofBits .f32 0x3F800000#32 := by
  unfold k0_pay8
  show Scalar.select (cmpi .slt (iota .tc S31x256 32 [0] iota_S31x256_d0_w32) (broadcast S31x256 (w2 c)) i)
    (shapeCast S31x256 g shapeCasts_S31x1x256_S31x256 i) (Scalar.ofBits .f32 0x3F800000#32) = _
  rw [mask_apply, cast_rows]
  split <;> rfl

/-- What the mask keeps of the landing buffer is fixed by its rows before the device's own. -/
theorem pay8_congr (c : Dev nD) {g g' : Vec F S31x1x256 .f32} (h : ∀ i : S31x1x256.Idx, (i 0).val < c.val → g i = g' i) :
    k0_pay8 (w2 c) g = k0_pay8 (w2 c) g' := by
  funext i
  rw [pay8_apply, pay8_apply]
  split
  · next hlt => exact h (rowIx i) hlt
  · rfl

end Cert.Scan

end
-- ==== Proof.PartsSignal.lean ====
/-
# The windows of the kernel's body: the signals

The body is printed in windows of sixty statements. Here each window is run from the state it starts in to the state it
ends in, with the words it hands to the next one, by the four steps of `Steps`: the signals and the total.
-/
module

public import proofs.«01_k».proof.Proof.Middle

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 63 → ℕ)

variable {R : sProp (MT nD τ sig Unit (Elt F) ℕ UU ℕ)} (c : Dev nD)

/-- The first eight signals. -/
theorem part1_sound {Q : _ → sProp (MT nD τ sig Unit (Elt F) ℕ UU ℕ)} (h : iprop(SigSt m ρ K c 8 ∗ R) ⊢ Q ⟨c, w2 c, barA⟩) :
    Runs c iprop(SigSt m ρ K c 0 ∗ R) (k0_part1 xM (Memref.isWhole_whole _) oM (Memref.isWhole_whole _) cM (Memref.isWhole_whole _) tM (Memref.isWhole_whole _) cc0_scratch2 cc0_scratch3) Q := by
  rw [k0_part1_eq_skeleton]; unfold k0_part1_skel
  unfold Runs
  rw [Prog.lift, Prog.bind_op, wp_deviceId]
  show Runs c _ _ Q
  iterate 8 refine sig_step m ρ K c (by decide) (by clear * -; revert c; decide +kernel) (by decide) ?_
  exact Runs.ret c h

/-- The next ten signals. -/
theorem part2_sound {Q : _ → sProp (MT nD τ sig Unit (Elt F) ℕ UU ℕ)} (h : iprop(SigSt m ρ K c 18 ∗ R) ⊢ Q ⟨⟩) :
    Runs c iprop(SigSt m ρ K c 8 ∗ R) (k0_part2 xM (Memref.isWhole_whole _) oM (Memref.isWhole_whole _) cM (Memref.isWhole_whole _) tM (Memref.isWhole_whole _) cc0_scratch2 cc0_scratch3 c (w2 c) barA) Q := by
  rw [k0_part2_eq_skeleton]; unfold k0_part2_skel
  iterate 10 refine sig_step m ρ K c (by decide) (by clear * -; revert c; decide +kernel) (by decide) ?_
  exact Runs.ret c h

/-- The next ten signals. -/
theorem part3_sound {Q : _ → sProp (MT nD τ sig Unit (Elt F) ℕ UU ℕ)} (h : iprop(SigSt m ρ K c 28 ∗ R) ⊢ Q ⟨⟩) :
    Runs c iprop(SigSt m ρ K c 18 ∗ R) (k0_part3 xM (Memref.isWhole_whole _) oM (Memref.isWhole_whole _) cM (Memref.isWhole_whole _) tM (Memref.isWhole_whole _) cc0_scratch2 cc0_scratch3 c (w2 c) barA) Q := by
  rw [k0_part3_eq_skeleton]; unfold k0_part3_skel
  iterate 10 refine sig_step m ρ K c (by decide) (by clear * -; revert c; decide +kernel) (by decide) ?_
  exact Runs.ret c h

/-- The last four signals; the rows are loaded and their total is stored. -/
theorem part4_sound {Q : _ → sProp (MT nD τ sig Unit (Elt F) ℕ UU ℕ)} (h : iprop(SigSt m ρ K c 32 ∗ xPts m ρ c ∗ tPts m ρ c fullShare ∗ R) ⊢ Q ⟨k0_pay1 (xstg m ρ c), iota .tc S256x256 32 [0] iota_S256x256_d0_w32, k0_pay3 (xstg m ρ c), k0_pay4⟩) :
    Runs c iprop(SigSt m ρ K c 28 ∗ xPts m ρ c ∗ tAny c ∗ R) (k0_part4 xM (Memref.isWhole_whole _) oM (Memref.isWhole_whole _) cM (Memref.isWhole_whole _) tM (Memref.isWhole_whole _) cc0_scratch2 cc0_scratch3 c (w2 c) barA) Q := by
  rw [k0_part4_eq_skeleton]; unfold k0_part4_skel
  iterate 4 refine sig_step m ρ K c (by decide) (by clear * -; revert c; decide +kernel) (by decide) ?_
  refine total_step m ρ c ?_
  exact Runs.ret c h

/-- The scan's first half: values alone. -/
theorem part5_sound {Q : _ → sProp (MT nD τ sig Unit (Elt F) ℕ UU ℕ)} {P : sProp (MT nD τ sig Unit (Elt F) ℕ UU ℕ)} (v102 : FVec F S256x256 .f32) (v130 : IVec S256x256 32) (v131 : FVec F S256x256 .f32) (v133 : IVec S256x256 1) (h : P ⊢ Q ⟨k0_pay5 v102 v130 v131 v133, k0_pay6 v102 v130 v131 v133⟩) :
    Runs c P (k0_part5 xM (Memref.isWhole_whole _) oM (Memref.isWhole_whole _) cM (Memref.isWhole_whole _) tM (Memref.isWhole_whole _) cc0_scratch2 cc0_scratch3 v102 v130 v131 v133) Q := by
  rw [k0_part5_eq_skeleton]; unfold k0_part5_skel
  exact Runs.ret c h

end Cert.Scan

end
-- ==== Proof.PartsSend.lean ====
/-
# The windows of the kernel's body: the copies

The barrier wait and the copies, window by window.
-/
module

public import proofs.«01_k».proof.Proof.Middle

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 63 → ℕ)

variable {R : sProp (MT nD τ sig Unit (Elt F) ℕ UU ℕ)} (c : Dev nD)

/-- The barrier wait and the first six copies. -/
theorem part6_sound {Q : _ → sProp (MT nD τ sig Unit (Elt F) ℕ UU ℕ)}  (v130 : IVec S256x256 32) (v172 v173 : FVec F S256x256 .f32) (h : ∀ w, iprop(SendSt m ρ K c 6 ∗ E2 m ρ c ∗ R) ⊢ Q ⟨k0_pay7 v130 v172 v173, w⟩) :
    Runs c iprop(SigSt m ρ K c 32 ∗ xPts m ρ c ∗ tPts m ρ c fullShare ∗ barW c ∗ R) (k0_part6 xM (Memref.isWhole_whole _) oM (Memref.isWhole_whole _) cM (Memref.isWhole_whole _) tM (Memref.isWhole_whole _) cc0_scratch2 cc0_scratch3 c (w2 c) barA v130 v172 v173) Q := by
  rw [k0_part6_eq_skeleton]; unfold k0_part6_skel
  refine wait_step m ρ K c ?_
  iterate 6 refine send_step m ρ K c (by decide) (by clear * -; revert c; decide +kernel) (by clear * -; revert c; decide +kernel) rfl rfl rfl ?_
  exact Runs.ret c (h _)

/-- Seven copies. -/
theorem part7_sound {Q : _ → sProp (MT nD τ sig Unit (Elt F) ℕ UU ℕ)} (v : BitVec 32) (h : ∀ r, iprop(SendSt m ρ K c 13 ∗ R) ⊢ Q r) :
    Runs c iprop(SendSt m ρ K c 6 ∗ R) (k0_part7 xM (Memref.isWhole_whole _) oM (Memref.isWhole_whole _) cM (Memref.isWhole_whole _) tM (Memref.isWhole_whole _) cc0_scratch2 cc0_scratch3 c (w2 c) v) Q := by
  rw [k0_part7_eq_skeleton]; unfold k0_part7_skel
  iterate 7 refine send_step m ρ K c (by decide) (by clear * -; revert c; decide +kernel) (by clear * -; revert c; decide +kernel) rfl rfl rfl ?_
  exact Runs.ret c (h _)

/-- Eight copies. -/
theorem part8_sound {Q : _ → sProp (MT nD τ sig Unit (Elt F) ℕ UU ℕ)} (v v' : BitVec 32) (h : ∀ r, iprop(SendSt m ρ K c 21 ∗ R) ⊢ Q r) :
    Runs c iprop(SendSt m ρ K c 13 ∗ R) (k0_part8 xM (Memref.isWhole_whole _) oM (Memref.isWhole_whole _) cM (Memref.isWhole_whole _) tM (Memref.isWhole_whole _) cc0_scratch2 cc0_scratch3 c (w2 c) v v') Q := by
  rw [k0_part8_eq_skeleton]; unfold k0_part8_skel
  iterate 8 refine send_step m ρ K c (by decide) (by clear * -; revert c; decide +kernel) (by clear * -; revert c; decide +kernel) rfl rfl rfl ?_
  exact Runs.ret c (h _)

/-- Seven copies. -/
theorem part9_sound {Q : _ → sProp (MT nD τ sig Unit (Elt F) ℕ UU ℕ)} (v : BitVec 32) (h : ∀ r, iprop(SendSt m ρ K c 28 ∗ R) ⊢ Q r) :
    Runs c iprop(SendSt m ρ K c 21 ∗ R) (k0_part9 xM (Memref.isWhole_whole _) oM (Memref.isWhole_whole _) cM (Memref.isWhole_whole _) tM (Memref.isWhole_whole _) cc0_scratch2 cc0_scratch3 c (w2 c) v) Q := by
  rw [k0_part9_eq_skeleton]; unfold k0_part9_skel
  iterate 7 refine send_step m ρ K c (by decide) (by clear * -; revert c; decide +kernel) (by clear * -; revert c; decide +kernel) rfl rfl rfl ?_
  exact Runs.ret c (h _)

end Cert.Scan

end
-- ==== Proof.PartsRecv.lean ====
/-
# The windows of the kernel's body: the landed rows

The last copies, the waits for the landed rows and the load of the landing buffer, window by window.
-/
module

public import proofs.«01_k».proof.Proof.Middle

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 63 → ℕ)

variable {R : sProp (MT nD τ sig Unit (Elt F) ℕ UU ℕ)} (c : Dev nD)

/-- The last three copies, and the waits for the first seven rows. -/
theorem part10_sound {Q : _ → sProp (MT nD τ sig Unit (Elt F) ℕ UU ℕ)} (v v' : BitVec 32) (h : iprop(RecvSt m ρ K c 7 ∗ E2 m ρ c ∗ bigSep Finset.univ (sendB m ρ c) ∗ R) ⊢ Q ⟨⟩) :
    Runs c iprop(SendSt m ρ K c 28 ∗ E2 m ρ c ∗ bigSep Finset.univ (recvA (F := F) c) ∗ R) (k0_part10 xM (Memref.isWhole_whole _) oM (Memref.isWhole_whole _) cM (Memref.isWhole_whole _) tM (Memref.isWhole_whole _) cc0_scratch2 cc0_scratch3 c (w2 c) v v') Q := by
  rw [k0_part10_eq_skeleton]; unfold k0_part10_skel
  iterate 3 refine send_step m ρ K c (by decide) (by clear * -; revert c; decide +kernel) (by clear * -; revert c; decide +kernel) rfl rfl rfl ?_
  refine Runs.pre c (recv_enter m ρ K c R) ?_
  iterate 7 refine recv_step m ρ K c (by decide) (by clear * -; revert c; decide +kernel) rfl rfl ?_
  exact Runs.ret c h

/-- The waits for ten rows. -/
theorem part11_sound {Q : _ → sProp (MT nD τ sig Unit (Elt F) ℕ UU ℕ)} (h : iprop(RecvSt m ρ K c 17 ∗ R) ⊢ Q ⟨⟩) :
    Runs c iprop(RecvSt m ρ K c 7 ∗ R) (k0_part11 xM (Memref.isWhole_whole _) oM (Memref.isWhole_whole _) cM (Memref.isWhole_whole _) tM (Memref.isWhole_whole _) cc0_scratch2 cc0_scratch3 (w2 c)) Q := by
  rw [k0_part11_eq_skeleton]; unfold k0_part11_skel
  iterate 10 refine recv_step m ρ K c (by decide) (by clear * -; revert c; decide +kernel) rfl rfl ?_
  exact Runs.ret c h

/-- The waits for ten rows. -/
theorem part12_sound {Q : _ → sProp (MT nD τ sig Unit (Elt F) ℕ UU ℕ)} (h : iprop(RecvSt m ρ K c 27 ∗ R) ⊢ Q ⟨⟩) :
    Runs c iprop(RecvSt m ρ K c 17 ∗ R) (k0_part12 xM (Memref.isWhole_whole _) oM (Memref.isWhole_whole _) cM (Memref.isWhole_whole _) tM (Memref.isWhole_whole _) cc0_scratch2 cc0_scratch3 (w2 c)) Q := by
  rw [k0_part12_eq_skeleton]; unfold k0_part12_skel
  iterate 10 refine recv_step m ρ K c (by decide) (by clear * -; revert c; decide +kernel) rfl rfl ?_
  exact Runs.ret c h

/-- The last four waits; the landing buffer is loaded, and its rows masked. -/
theorem part13_sound {Q : _ → sProp (MT nD τ sig Unit (Elt F) ℕ UU ℕ)} (h : ∀ g, (∀ i : S31x1x256.Idx, (i 0).val < c.val → g i = landed m ρ c i) → iprop(DrainSt m ρ K c 0 ∗ E3 m ρ c g ∗ R) ⊢ Q ⟨k0_pay8 (w2 c) g, k0_pay9 (w2 c) g, k0_pay10 (w2 c) g, k0_pay11 (w2 c) g, k0_pay12 (w2 c) g, k0_pay13 (w2 c) g, k0_pay14 (w2 c) g, k0_pay15 (w2 c) g, k0_pay16 (w2 c) g, k0_pay17 (w2 c) g, k0_pay18 (w2 c) g, k0_pay19 (w2 c) g, k0_pay20 (w2 c) g, k0_pay21 (w2 c) g, k0_pay22 (w2 c) g, k0_pay23 (w2 c) g, k0_pay24 (w2 c) g, k0_pay25 (w2 c) g, k0_pay26 (w2 c) g, k0_pay27 (w2 c) g, k0_pay28 (w2 c) g, k0_pay29 (w2 c) g, k0_pay30 (w2 c) g, k0_pay31 (w2 c) g, k0_pay32 (w2 c) g, k0_pay33 (w2 c) g⟩) :
    Runs c iprop(RecvSt m ρ K c 27 ∗ E2 m ρ c ∗ bigSep Finset.univ (sendB m ρ c) ∗ (bigSep Finset.univ fun k => atPos ER (sendCell c k) 0 ∅ 0) ∗ R) (k0_part13 xM (Memref.isWhole_whole _) oM (Memref.isWhole_whole _) cM (Memref.isWhole_whole _) tM (Memref.isWhole_whole _) cc0_scratch2 cc0_scratch3 (w2 c)) Q := by
  rw [k0_part13_eq_skeleton]; unfold k0_part13_skel
  iterate 4 refine recv_step m ρ K c (by decide) (by clear * -; revert c; decide +kernel) rfl rfl ?_
  refine land_step m ρ K c fun g hg => ?_
  exact Runs.ret c (h g hg)

end Cert.Scan

end
-- ==== Proof.PartsDrain.lean ====
/-
# The windows of the kernel's body: the finished copies

The result is stored and the copies are waited for, window by window.
-/
module

public import proofs.«01_k».proof.Proof.Middle

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 63 → ℕ)

variable {R : sProp (MT nD τ sig Unit (Elt F) ℕ UU ℕ)} (c : Dev nD)

/-- The result is stored, and two copies have finished. -/
theorem part14_sound {Q : _ → sProp (MT nD τ sig Unit (Elt F) ℕ UU ℕ)} (v178 : FVec F S256x256 .f32) (g : Vec F S31x1x256 .f32) (h : iprop(DrainSt m ρ K c 2 ∗ R ∗ oPts c (outOf v178 (w2 c) g)) ⊢ Q (Scalar.addi (w2 c) 3#32)) :
    Runs c iprop(DrainSt m ρ K c 0 ∗ R ∗ oAny c) (k0_part14 xM (Memref.isWhole_whole _) oM (Memref.isWhole_whole _) cM (Memref.isWhole_whole _) tM (Memref.isWhole_whole _) cc0_scratch2 cc0_scratch3 (w2 c) v178 (k0_pay8 (w2 c) g) (k0_pay9 (w2 c) g) (k0_pay10 (w2 c) g) (k0_pay11 (w2 c) g) (k0_pay12 (w2 c) g) (k0_pay13 (w2 c) g) (k0_pay14 (w2 c) g) (k0_pay15 (w2 c) g) (k0_pay16 (w2 c) g) (k0_pay17 (w2 c) g) (k0_pay18 (w2 c) g) (k0_pay19 (w2 c) g) (k0_pay20 (w2 c) g) (k0_pay21 (w2 c) g) (k0_pay22 (w2 c) g) (k0_pay23 (w2 c) g) (k0_pay24 (w2 c) g) (k0_pay25 (w2 c) g) (k0_pay26 (w2 c) g) (k0_pay27 (w2 c) g) (k0_pay28 (w2 c) g) (k0_pay29 (w2 c) g) (k0_pay30 (w2 c) g) (k0_pay31 (w2 c) g) (k0_pay32 (w2 c) g) (k0_pay33 (w2 c) g)) Q := by
  rw [k0_part14_eq_skeleton]; unfold k0_part14_skel
  refine out_step c (w := outOf v178 (w2 c) g) ?_
  iterate 2 refine drain_step m ρ K c (by decide) (by clear * -; revert c; decide +kernel) rfl ?_
  exact Runs.ret c h

/-- Seven copies have finished. -/
theorem part15_sound {Q : _ → sProp (MT nD τ sig Unit (Elt F) ℕ UU ℕ)} (h : iprop(DrainSt m ρ K c 9 ∗ R) ⊢ Q ⟨Scalar.extui (Scalar.cmpi .slt (Scalar.addi (w2 c) 10#32) 32#32), 0#32⟩) :
    Runs c iprop(DrainSt m ρ K c 2 ∗ R) (k0_part15 xM (Memref.isWhole_whole _) oM (Memref.isWhole_whole _) cM (Memref.isWhole_whole _) tM (Memref.isWhole_whole _) cc0_scratch2 cc0_scratch3 (w2 c) (Scalar.addi (w2 c) 3#32)) Q := by
  rw [k0_part15_eq_skeleton]; unfold k0_part15_skel
  iterate 7 refine drain_step m ρ K c (by decide) (by clear * -; revert c; decide +kernel) rfl ?_
  exact Runs.ret c h

/-- Eight copies have finished. -/
theorem part16_sound {Q : _ → sProp (MT nD τ sig Unit (Elt F) ℕ UU ℕ)} (h : iprop(DrainSt m ρ K c 17 ∗ R) ⊢ Q (Scalar.addi (w2 c) 18#32)) :
    Runs c iprop(DrainSt m ρ K c 9 ∗ R) (k0_part16 xM (Memref.isWhole_whole _) oM (Memref.isWhole_whole _) cM (Memref.isWhole_whole _) tM (Memref.isWhole_whole _) cc0_scratch2 cc0_scratch3 (w2 c) (Scalar.extui (Scalar.cmpi .slt (Scalar.addi (w2 c) 10#32) 32#32)) 0#32) Q := by
  rw [k0_part16_eq_skeleton]; unfold k0_part16_skel
  iterate 8 refine drain_step m ρ K c (by decide) (by clear * -; revert c; decide +kernel) rfl ?_
  exact Runs.ret c h

/-- Seven copies have finished. -/
theorem part17_sound {Q : _ → sProp (MT nD τ sig Unit (Elt F) ℕ UU ℕ)} (h : iprop(DrainSt m ρ K c 24 ∗ R) ⊢ Q ⟨Scalar.extui (Scalar.cmpi .slt (Scalar.addi (w2 c) 25#32) 32#32), 0#32⟩) :
    Runs c iprop(DrainSt m ρ K c 17 ∗ R) (k0_part17 xM (Memref.isWhole_whole _) oM (Memref.isWhole_whole _) cM (Memref.isWhole_whole _) tM (Memref.isWhole_whole _) cc0_scratch2 cc0_scratch3 (w2 c) (Scalar.addi (w2 c) 18#32)) Q := by
  rw [k0_part17_eq_skeleton]; unfold k0_part17_skel
  iterate 7 refine drain_step m ρ K c (by decide) (by clear * -; revert c; decide +kernel) rfl ?_
  exact Runs.ret c h

end Cert.Scan

end
-- ==== Proof.Body.lean ====
/-
# The kernel's body, whole

The windows one after the other: from what a device holds at its entry to what it holds at its end, with the result
stored.
-/
module

public import proofs.«01_k».proof.Proof.PartsSignal
public import proofs.«01_k».proof.Proof.PartsSend
public import proofs.«01_k».proof.Proof.PartsRecv
public import proofs.«01_k».proof.Proof.PartsDrain

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 63 → ℕ)

/-- The device's rows scanned: each the product of the rows up to it. -/
def scanRows (x : Vec F S256x256 .bf16) : FVec F S256x256 .f32 :=
  k0_pay7 (iota .tc S256x256 32 [0] iota_S256x256_d0_w32)
    (k0_pay5 (k0_pay1 x) (iota .tc S256x256 32 [0] iota_S256x256_d0_w32) (k0_pay3 x) k0_pay4)
    (k0_pay6 (k0_pay1 x) (iota .tc S256x256 32 [0] iota_S256x256_d0_w32) (k0_pay3 x) k0_pay4)

/-- What device `c` stores as its result: its rows scanned, times the totals that landed from the devices before it. -/
def outAt (c : Dev nD) : (cc0_stg1_0 : Ref sig .tc).ty.Contents (Elt F) := outOf (scanRows (xstg m ρ c)) (w2 c) (landed m ρ c)

theorem Runs.of {α : Type} (c : Dev nD) {P : sProp (MT nD τ sig Unit (Elt F) ℕ UU ℕ)} {Q : α → sProp (MT nD τ sig Unit (Elt F) ℕ UU ℕ)}
    {p : Prog (TpuEff nD τ sig (Elt F) Λ₀ .tc) α} (h : Runs c P p Q) :
    P ⊢ wp frame (wpE (defs₀ (F := F)) 𝒱₀ (c : Thread nD τ) none) Set.univ p Q := h

/-- What a device holds when it enters the body. -/
def Enter (c : Dev nD) : sProp 𝕄 :=
  iprop(SigSt m ρ K c 0 ∗ xPts m ρ c ∗ tAny c ∗ barW c ∗ bigSep Finset.univ (recvA (F := F) c)
    ∗ (bigSep Finset.univ fun k => atPos ER (sendCell c k) 0 ∅ 0) ∗ oAny c)

/-- What a device holds when it leaves the body. -/
def Leave (c : Dev nD) : sProp 𝕄 :=
  iprop(∃ g, DrainSt m ρ K c 31 ∗ E3 m ρ c g ∗ oPts c (outAt m ρ c))

set_option maxHeartbeats 4000000 in
/-- The windows but for the last wait. -/
theorem part18_sound (c : Dev nD) {Q : _ → sProp (MT nD τ sig Unit (Elt F) ℕ UU ℕ)}
    (h : ∀ g, iprop(DrainSt m ρ K c 30 ∗ E3 m ρ c g ∗ oPts c (outAt m ρ c)) ⊢ Q ⟨w2 c, 31#32⟩) :
    Runs c (Enter m ρ K c) (k0_part18 xM (Memref.isWhole_whole _) oM (Memref.isWhole_whole _) cM (Memref.isWhole_whole _) tM (Memref.isWhole_whole _) cc0_scratch2 cc0_scratch3) Q := by
  unfold Enter
  rw [k0_part18_eq_skeleton]; unfold k0_part18_skel
  refine Runs.bind c (part1_sound m ρ K c (Runs.of c ?_)); dsimp only
  refine Runs.bind c (part2_sound m ρ K c (Runs.of c ?_))
  refine Runs.bind c (part3_sound m ρ K c (Runs.of c ?_))
  refine Runs.bind c (part4_sound m ρ K c (Runs.of c ?_)); dsimp only
  refine Runs.bind c (part5_sound c _ _ _ _ (Runs.of c ?_)); dsimp only
  refine Runs.bind c (part6_sound m ρ K c _ _ _ ?_); intro r; refine Runs.of c ?_; dsimp only
  refine Runs.bind c (part7_sound m ρ K c _ ?_); intro r; refine Runs.of c ?_
  refine Runs.bind c (part8_sound m ρ K c _ _ ?_); intro r; refine Runs.of c ?_
  refine Runs.bind c (part9_sound m ρ K c _ ?_); intro r; refine Runs.of c ?_
  refine Runs.bind c (part10_sound m ρ K c _ _ (Runs.of c ?_))
  refine Runs.bind c (part11_sound m ρ K c (Runs.of c ?_))
  refine Runs.bind c (part12_sound m ρ K c (Runs.of c ?_))
  refine Runs.bind c (part13_sound m ρ K c ?_); intro g hg; refine Runs.of c ?_; dsimp only
  refine Runs.bind c (part14_sound m ρ K c (scanRows (xstg m ρ c)) g (Runs.of c ?_))
  rw [outOf_congr (pay8_congr c hg)]
  refine Runs.bind c (part15_sound m ρ K c (Runs.of c ?_)); dsimp only
  refine Runs.bind c (part16_sound m ρ K c (Runs.of c ?_))
  refine Runs.bind c (part17_sound m ρ K c (Runs.of c ?_)); dsimp only
  iterate 6 refine drain_step m ρ K c (by decide) (by clear * -; revert c; decide +kernel) rfl ?_
  exact Runs.ret c (h g)

/-- The body. -/
theorem body_runs (c : Dev nD) :
    Runs c (Enter m ρ K c) (cc0_body xM (Memref.isWhole_whole _) oM (Memref.isWhole_whole _) cM (Memref.isWhole_whole _) tM (Memref.isWhole_whole _) cc0_scratch2 cc0_scratch3) (fun _ => Leave m ρ K c) := by
  rw [cc0_body_eq_skeleton]; unfold cc0_body_skel
  refine Runs.bind c (part18_sound m ρ K c fun g => Runs.of c ?_); dsimp only
  refine drain_step m ρ K c (by decide) (by clear * -; revert c; decide +kernel) rfl ?_
  refine Runs.ret c ?_
  unfold Leave
  iintro H
  iexists g
  iexact H

end Cert.Scan

end
-- ==== Proof.Oblig.lean ====
/-
# The body's obligation

What a device's kernel is entered with and left with, and that the body takes the one to the other.
-/
module

public import proofs.«01_k».proof.Proof.Body
public import proofs.«01_k».proof.Proof.Gen.KernelIdeal.Points

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 63 → ℕ)

/-! ## The states before and after -/

/-- The records, the tokens device `c` pays with, and its positions. -/
def ghost (c : Dev nD) : sProp 𝕄 :=
  iprop(records m ρ K ∗ (bigSep Finset.univ fun j : Dev nD => dutyTok ER (barCell j) 0 c) ∗ bigSep Finset.univ (sendTok (F := F) c)
    ∗ atPos ER (barCell c) 0 ∅ 0 ∗ (bigSep Finset.univ fun k => atPos ER (sendCell c k) 0 ∅ 0) ∗ bigSep Finset.univ fun k => atPos ER (recvCell c k) 0 ∅ 0)

/-- The credit to wait for a row, if there is a device that sends it. -/
def recvCred (c : Dev nD) (k : Fin 31) : sProp 𝕄 := if k.val < c.val then cred (tallyAt (recvCell c k) () N) else iprop(emp)

/-- What the launch gives device `c`. -/
def start (c : Dev nD) : sProp 𝕄 :=
  iprop((∃ K, ghost m ρ K c) ∗ cred (tallyAt (barCell c) () 31) ∗ bigSep Finset.univ (recvCred (F := F) c) ∗ levAts L lv)

def cAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m ρ c ∗ cAny c ∗ tAny c)
/-- At the end every counter is at zero. -/
def Φ₁ (c : Dev nD) : sProp 𝕄 :=
  iprop((cAny c ∗ tAny c) ∗ ((bigSep Finset.univ fun k => semVal (sendCell c k) 0) ∗ bigSep Finset.univ fun k => semVal (recvCell c k) 0) ∗ semVal (barCell c) 0)

/-! ## The slots handed over at the signals -/

omit [FloatOps F] in
theorem dn_inj (c : Dev nD) : Function.Injective (dn c) := by
  intro k k' h
  have h1 := congrArg Fin.val h
  have := c.isLt; have := k.isLt; have := k'.isLt; have hD : nD = 32 := rfl
  apply Fin.ext; simp only [dn] at h1; omega

theorem image_dn (c : Dev nD) : (Finset.univ.image (dn c)) = Finset.univ.erase c := by revert c; decide +kernel

/-- Slot `k` of device `c`, if there is a device that fills it. -/
def giveSlot (c : Dev nD) (k : Fin 31) : sProp 𝕄 := if k.val < c.val then iprop(∃ f, slotPts c k f) else iprop(emp)
/-- Slot `k` of device `c`, if there is none. -/
def keepSlot (c : Dev nD) (k : Fin 31) : sProp 𝕄 := if k.val < c.val then iprop(emp) else iprop(∃ f, slotPts c k f)

omit [FloatOps F] in
theorem barPay_dn (c : Dev nD) (k : Fin 31) : (barPay (dn c k) c : sProp 𝕄) = giveSlot c k := by
  have hk := k.isLt; have hc := c.isLt; have hD : nD = 32 := rfl
  unfold barPay giveSlot
  by_cases h : k.val < c.val
  · have hv := dn_val h
    rw [if_pos h, if_pos (by omega)]
    have : slotIx c (dn c k) = k := by apply Fin.ext; rw [slotIx_val (by omega)]; omega
    rw [this]
  · have hv : (dn c k).val = c.val + (31 - k.val) := by simp only [dn]; omega
    rw [if_neg h, if_neg (by omega)]

omit [FloatOps F] in
theorem give_slots (c : Dev nD) : bigSep Finset.univ (giveSlot (F := F) c) ⊢ bigSep Finset.univ fun j : Dev nD => (barPay j c : sProp 𝕄) := by
  rw [bigSep_univ_at (fun j : Dev nD => (barPay j c : sProp 𝕄)) c, ← image_dn, bigSep_image_of_injOn (dn_inj c).injOn,
    show (fun k => (barPay (dn c k) c : sProp 𝕄)) = giveSlot c from funext fun k => barPay_dn c k,
    show (barPay c c : sProp 𝕄) = iprop(emp) from if_neg (Nat.lt_irrefl _)]
  iintro H
  isplitr; · iempintro
  iexact H

omit [FloatOps F] in
theorem cut_one (c : Dev nD) (f : Buf (Elt F) ((c : Thread nD τ).loc cc0_scratch0)) (k : Fin 31) : (slotPts c k f : sProp 𝕄) ⊢ iprop(giveSlot (F := F) c k ∗ keepSlot (F := F) c k) := by
  unfold giveSlot keepSlot
  split
  · iintro H
    isplitl [H]; · iexists f; iexact H
    iempintro
  · iintro H
    isplitr; · iempintro
    iexists f; iexact H

omit [FloatOps F] in
theorem cut_all (c : Dev nD) (f : Buf (Elt F) ((c : Thread nD τ).loc cc0_scratch0)) :
    (bigSep Finset.univ fun k : Fin 31 => (slotPts c k f : sProp 𝕄)) ⊢ bigSep Finset.univ fun k : Fin 31 => iprop(giveSlot (F := F) c k ∗ keepSlot (F := F) c k) :=
  bigSep_mono fun k _ => cut_one c f k

omit [FloatOps F] in
/-- The landing buffer cut into its slots, those to be filled and those not. -/
theorem cut_slots (c : Dev nD) : (cAny c : sProp 𝕄) ⊢ iprop(bigSep Finset.univ (giveSlot (F := F) c) ∗ bigSep Finset.univ (keepSlot (F := F) c)) := by
  unfold cAny
  rw [← bigSep_sep']
  iintro ⟨%f, H⟩
  have h := pointsTo_biUnion (Ix := Unit) (Name := ℕ) (U := UU) (Lvl := ℕ) (ℓ := (c : Thread nD τ).loc cc0_scratch0) (q := fullShare) (f := f) Finset.univ slotSet
    (fun k _ k' _ h => slot_disjoint k k' h)
  rw [slot_cover] at h
  ihave H := (Entails.of_eq h) $$ H
  iapply (cut_all c f)
  iexact H

omit [FloatOps F] in
theorem recvA_one (c : Dev nD) (k : Fin 31) :
    iprop(atPos ER (recvCell c k) 0 ∅ 0 ∗ recvCred (F := F) c k ∗ keepSlot (F := F) c k) ⊢ recvA (F := F) c k := by
  unfold recvA recvCred keepSlot
  split
  · iintro ⟨H, Hc, -⟩
    isplitl [H]; · iexact H
    iexact Hc
  · iintro ⟨H, -, Hs⟩
    isplitl [H]; · iexact H
    iexact Hs

omit [FloatOps F] in
theorem recvA_intro (c : Dev nD) :
    iprop((bigSep Finset.univ fun k => atPos ER (recvCell c k) 0 ∅ 0) ∗ bigSep Finset.univ (recvCred (F := F) c) ∗ bigSep Finset.univ (keepSlot (F := F) c))
      ⊢ bigSep Finset.univ (recvA (F := F) c) := by
  rw [← bigSep_sep', ← bigSep_sep']
  exact bigSep_mono fun k _ => recvA_one c k

/-- The entry. -/
theorem enter (c : Dev nD) :
    iprop((ghost m ρ K c ∗ cred (tallyAt (barCell c) () 31) ∗ bigSep Finset.univ (recvCred (F := F) c) ∗ levAts L lv)
        ∗ (∃ W, owes (c : Thread nD τ) (Osig c 0) W) ∗ (cAny c ∗ tAny c) ∗ xPts m ρ c ∗ oAny c) ⊢ Enter m ρ K c := by
  unfold ghost Enter SigSt barW
  rw [fromN_zero, bigSep_sep']
  iintro ⟨⟨⟨HK, Htb, Hts, Hab, Has, Har⟩, Hcb, Hcr, Hlev⟩, HO, ⟨Hc, Ht⟩, Hx, Ho⟩
  ihave Hs := (cut_slots c) $$ Hc
  icases Hs with ⟨Hg, Hk⟩
  ihave Hg := (give_slots c) $$ Hg
  isplitl [HK HO Htb Hg]
  · isplitl [HK]; · iexact HK
    isplitl [HO]; · iexact HO
    isplitl [Htb]; · iexact Htb
    iexact Hg
  isplitl [Hx]; · iexact Hx
  isplitl [Ht]; · iexact Ht
  isplitl [Hcb Hab Hlev Hts]
  · isplitl [Hcb]; · iexact Hcb
    isplitl [Hab]; · iexact Hab
    isplitl [Hlev]; · iexact Hlev
    iexact Hts
  isplitl [Har Hcr Hk]
  · iapply (recvA_intro c)
    isplitl [Har]; · iexact Har
    isplitl [Hcr]; · iexact Hcr
    iexact Hk
  isplitl [Has]; · iexact Has
  iexact Ho

/-- The exit. -/
theorem leave (c : Dev nD) :
    Leave m ρ K c ⊢ iprop(Φ₁ c ∗ (∃ W, owes (c : Thread nD τ) 0 W) ∗ xPts m ρ c ∗ oPts c (outAt m ρ c)) := by
  unfold Leave DrainSt E3 E2 Φ₁ drainB
  rw [uptoN_top, bigSep_sep']
  iintro ⟨%g, ⟨-, HO, -, Hzs, Hsrc⟩, ⟨⟨Hx, Ht, Hzb⟩, Hzr, Hc⟩, Ho⟩
  unfold tPts
  ihave Ht := (Transfers.pointsTo_toks_join fullShare 31) $$ [Ht Hsrc]
  · isplitl [Ht]; · iexact Ht
    unfold srcPts; iexact Hsrc
  isplitl [Hc Ht Hzs Hzr Hzb]
  · isplitl [Hc Ht]
    · isplitl [Hc]
      · unfold cAny cPts; iexists g; iexact Hc
      · unfold tAny; iexists (tot m ρ c); iexact Ht
    isplitl [Hzs Hzr]
    · isplitl [Hzs]; · iexact Hzs
      iexact Hzr
    iexact Hzb
  isplitl [HO]; · iexact HO
  isplitl [Hx]; · iexact Hx
  iexact Ho

/-! ## The obligation -/

theorem cfg0_N : cfg0.N = 1 := N_0
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The windows' arrays as the memory has them; after the point the rows as staged and the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => Osig c 0
    | ⟨_ + 1, _⟩ => 0

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- From what the launch gives to what the body enters with. -/
theorem pre_enter (c : Dev nD) : bodyPre m ρ c ⊢ iprop(∃ K, Enter m ρ K c) := by
  unfold bodyPre Φ₀ start
  iintro ⟨⟨⟨⟨%K, Hg⟩, Hrest⟩, Hscr⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = Osig c 0 from rfl]
  iexists K
  iapply (enter m ρ K c)
  isplitl [Hg Hrest]
  · isplitl [Hg]; · iexact Hg
    iexact Hrest
  isplitl [HO]; · iexists W; iexact HO
  isplitl [Hscr]; · iexact Hscr
  unfold xPts oAny oPts
  isplitl [Hx]; · iexact Hx
  iexists g1; iexact Hout

theorem leave_post (c : Dev nD) : Leave m ρ K c ⊢ bodyPost m ρ c := by
  refine (leave m ρ K c).trans ?_
  unfold bodyPost Dat.owesAt Pipeline.owesWithin xPts oPts
  rw [show (dats m ρ 0 c).owed t₀.succ = 0 from rfl]
  iintro ⟨HΦ, ⟨%W, HO⟩, Hx, Ho⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 4000 in
/-- The obligation of the pipelined region: its body takes the state before the point to the state after it. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
    (cc0_body xM (Memref.isWhole_whole _) oM (Memref.isWhole_whole _) cM (Memref.isWhole_whole _) tM (Memref.isWhole_whole _) cc0_scratch2 cc0_scratch3)
    (fun _ => bodyPost m ρ c)
  refine (pre_enter m ρ c).trans ?_
  iintro ⟨%K, H⟩
  iapply (wp_mono frame _ Set.univ (fun _ => leave_post m ρ K c))
  iapply (show Enter m ρ K c ⊢ _ from body_runs m ρ K c)
  iexact H

end Cert.Scan

end
-- ==== Proof.Run.lean ====
/-
# The launch and the run

The cells and tokens the launch mints, how they are dealt out over the mesh, the credit each device starts with, and the
run of the whole mesh from any memory with zero counters.
-/
module

public import proofs.«01_k».proof.Proof.Oblig
public import Idealize.ShloMosaic.Lib.Pipeline.CollectiveSegs

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells in three groups -/

/-- The kernel's own semaphores: of the copies sent, then of the rows landed. -/
def osem : Fin 31 ⊕ Fin 31 → SemLoc sig := Sum.elim (fun k => .dma (sendS k)) (fun k => .dma (recvS k))

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by decide +kernel
theorem kcell_injective : Function.Injective (kcell : Dev nD × Fin 63 → GSem nD τ sig) := by
  rintro ⟨c, k⟩ ⟨c', k'⟩ h
  exact Prod.ext (congrArg (fun g : GSem nD τ sig => g.1.1) h) (csem_injective (congrArg Prod.snd h))

theorem kcell_b (c : Dev nD) : kcell (c, bIx) = barCell c := rfl
theorem kcell_s (c : Dev nD) (k : Fin 31) : kcell (c, sIx k) = sendCell c k := by unfold kcell; rw [csem_s]
theorem kcell_r (c : Dev nD) (k : Fin 31) : kcell (c, rIx k) = recvCell c k := by unfold kcell; rw [csem_r]

def groups : Unit ⊕ (Fin 31 ⊕ Fin 31) → Fin 63 := Sum.elim (fun _ => bIx) (Sum.elim sIx rIx)
theorem groups_bijective : Function.Bijective groups := by decide +kernel

/-- Over a device's cells: the barrier, the copies sent, the rows landed. -/
theorem over_cells (c : Dev nD) (Φ : GSem nD τ sig → sProp 𝕄) :
    (bigSep Finset.univ fun i : Fin 63 => Φ (kcell (c, i)))
      = iprop(Φ (barCell c) ∗ (bigSep Finset.univ fun k : Fin 31 => Φ (sendCell c k)) ∗ bigSep Finset.univ fun k : Fin 31 => Φ (recvCell c k)) := by
  rw [bigSep_univ_equiv (Equiv.ofBijective groups groups_bijective), BI.bigSep_univ_sum, BI.bigSep_univ_sum, bigSep_univ_eq_bigSepL [()] rfl (by decide)]
  show iprop(Φ (kcell (c, bIx)) ∗ (bigSep Finset.univ fun k => Φ (kcell (c, sIx k))) ∗ bigSep Finset.univ fun k => Φ (kcell (c, rIx k))) = _
  simp only [kcell_b, kcell_s, kcell_r]

def ringCells : Finset (GSem nD τ sig) := Finset.univ.map ⟨kcell, kcell_injective⟩

/-! ## The tokens -/

/-- A device's own cells' tokens: of its barrier, one for each device; of each copy; of each row. -/
abbrev tokOf (cj : Dev nD × (Dev nD ⊕ (Fin 31 ⊕ Fin 31))) : GSem nD τ sig × ℕ × Dev nD := match cj.2 with
  | .inl j => (barCell cj.1, 0, j) | .inr (.inl k) => (sendCell cj.1 k, 0, d₀) | .inr (.inr k) => (recvCell cj.1 k, 0, d₀)

theorem tokOf_injective : Function.Injective (tokOf : Dev nD × (Dev nD ⊕ (Fin 31 ⊕ Fin 31)) → GSem nD τ sig × ℕ × Dev nD) := by
  rintro ⟨c, j⟩ ⟨c', j'⟩ h
  have h1 : c = c' := by
    have := congrArg (fun x : GSem nD τ sig × ℕ × Dev nD => x.1.1.1) h
    rcases j with j | j | j <;> rcases j' with j' | j' | j' <;> exact this
  subst h1
  have h2 := congrArg (fun x : GSem nD τ sig × ℕ × Dev nD => (kind x.1.2, x.2.2)) h
  rcases j with j | j | j <;> rcases j' with j' | j' | j' <;> simp only [tokOf, kind_bar, kind_send, kind_recv] at h2 <;> cases h2 <;> rfl
def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- The tokens of device `c`'s own cells; -/
def toks (c : Dev nD) : sProp 𝕄 :=
  iprop((bigSep Finset.univ fun j : Dev nD => dutyTok ER (barCell c) 0 j)
    ∗ (bigSep Finset.univ fun k => dutyTok ER (sendCell c k) 0 d₀) ∗ bigSep Finset.univ fun k => dutyTok ER (recvCell c k) 0 d₀)
/-- the tokens device `c` pays with. -/
def payToks (c : Dev nD) : sProp 𝕄 :=
  iprop((bigSep Finset.univ fun j : Dev nD => dutyTok ER (barCell j) 0 c) ∗ bigSep Finset.univ (sendTok (F := F) c))

/-- Where device `c`'s copy `k` would go, counted around the mesh. -/
def around (k : Fin 31) : Dev nD ≃ Dev nD where
  toFun c := up c k
  invFun c := dn c k
  left_inv c := by revert c k; decide +kernel
  right_inv c := by revert c k; decide +kernel

theorem over_swap {A B : Type} [Fintype A] [Fintype B] (Φ : A → B → sProp 𝕄) :
    (bigSep Finset.univ fun a => bigSep Finset.univ fun b => Φ a b) = bigSep Finset.univ fun b => bigSep Finset.univ fun a => Φ a b :=
  (bigSep_univ_prod (fun x : A × B => Φ x.1 x.2)).symm.trans
    ((bigSep_univ_equiv (Equiv.prodComm B A) fun x : A × B => Φ x.1 x.2).trans (bigSep_univ_prod fun x : B × A => Φ x.2 x.1))

theorem sendTok_intro (c : Dev nD) (k : Fin 31) :
    iprop(dutyTok ER (sendCell c k) 0 d₀ ∗ dutyTok ER (recvCell (around k c) k) 0 d₀) ⊢ (sendTok (F := F) c k : sProp 𝕄) := by
  unfold sendTok
  split
  · iintro H; iexact H
  · iintro -; iempintro

/-- The tokens dealt over the mesh: each to the device that pays with it. -/
theorem toks_around : (bigSep Finset.univ fun c : Dev nD => (toks c : sProp 𝕄)) ⊢ bigSep Finset.univ fun c : Dev nD => payToks c := by
  unfold toks payToks
  rw [bigSep_sep', bigSep_sep', bigSep_sep', over_swap fun (c j : Dev nD) => (dutyTok ER (barCell c) 0 j : sProp 𝕄),
    over_swap fun (c : Dev nD) (k : Fin 31) => (dutyTok ER (recvCell c k) 0 d₀ : sProp 𝕄),
    bigSep_congr (s := Finset.univ) fun (k : Fin 31) _ => bigSep_univ_equiv (around k) fun c : Dev nD => (dutyTok ER (recvCell c k) 0 d₀ : sProp 𝕄),
    over_swap fun (k : Fin 31) (c : Dev nD) => (dutyTok ER (recvCell (around k c) k) 0 d₀ : sProp 𝕄)]
  refine BIClass.sep_mono (BIBase.Entails.rfl) ?_
  rw [← bigSep_sep']
  refine bigSep_mono fun c _ => ?_
  rw [← bigSep_sep']
  exact bigSep_mono fun k _ => sendTok_intro c k

/-- What the launch's element deals device `c`; -/
def G (c : Dev nD) : sProp 𝕄 :=
  iprop((bigSep Finset.univ fun k : Fin 63 => roundState ER (sched m ρ) (kcell (c, k)) 0)
    ∗ (bigSep Finset.univ fun k : Fin 63 => iprop(atPos ER (kcell (c, k)) 0 ∅ 0 ∗ reached ER (kcell (c, k)) 0)) ∗ toks c)
/-- what it is once every cell's invariant stands. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 63 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [BI.bigSep_univ_sum, BI.bigSep_univ_sum]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']
    · iexact Hat'
    · iexact Hr'
  iexact Htok'

/-! ## The counters -/

theorem ownSems0_eq (c : Dev nD) : (Pipeline.ownSems0 (Ix := Unit) (Name := ℕ) (U := UU) (Lvl := ℕ) (Val := Elt F) (τ := τ) osem c : sProp 𝕄)
    = iprop((bigSep Finset.univ fun k => semVal (sendCell c k) 0) ∗ bigSep Finset.univ fun k => semVal (recvCell c k) 0) := by
  unfold Pipeline.ownSems0; rw [BI.bigSep_univ_sum]; rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 63 => semVal (kcell (c, k)) 0 : sProp 𝕄) := by
  rw [ownSems0_eq, unscopedSems0_eq, over_cells c fun g => semVal g 0]
  iintro ⟨⟨HS, HV⟩, HB⟩
  isplitl [HB]; · iexact HB
  isplitl [HS]
  · iexact HS
  · iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos]
    · iexact Hos
    · iexact Hus
  imod (show iprop((bigSep Finset.univ fun k : Fin 63 => semVal (kcell (c, k)) 0) ∗ bigSep Finset.univ fun k : Fin 63 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv]
    · iexact Hv
    · iexact Hst
  imodintro
  isplitl [Hinv]; · iexact Hinv
  isplitl [Hat]; · iexact Hat
  iexact Htok

/-- A device's positions, with the tokens it pays with. -/
def linear (c : Dev nD) : sProp 𝕄 :=
  iprop((bigSep Finset.univ fun k : Fin 63 => atPos ER (kcell (c, k)) 0 ∅ 0) ∗ payToks c)

theorem ghost_intro (K : Dev nD × Fin 63 → ℕ) (c : Dev nD) : iprop(records m ρ K ∗ linear c) ⊢ G' m ρ c := by
  unfold linear payToks G' ghost
  rw [over_cells c fun g => (atPos ER g 0 ∅ 0 : sProp 𝕄)]
  iintro ⟨HR, ⟨HaB, HaS, HaV⟩, HtB, HtS⟩
  iexists K
  isplitl [HR]; · iexact HR
  isplitl [HtB]; · iexact HtB
  isplitl [HtS]; · iexact HtS
  isplitl [HaB]; · iexact HaB
  isplitl [HaS]; · iexact HaS
  iexact HaV

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 63 => iprop(∃ κ : ℕ, cellInv ER (sched m ρ) κ (kcell ck))),
    bigSep_congr (s := Finset.univ) (fun (c : Dev nD) _ => bigSep_sep' Finset.univ (fun k : Fin 63 => (atPos ER (kcell (c, k)) 0 ∅ 0 : sProp 𝕄)) (fun k => reached ER (kcell (c, k)) 0)),
    bigSep_sep', ← bigSep_univ_prod (fun ck : Dev nD × Fin 63 => (reached ER (kcell ck) 0 : sProp 𝕄))]
  iintro ⟨HI, ⟨Hat, #HR⟩, Htok⟩
  ihave HK := (BI.bigSep_exists_pi Finset.univ (fun (ck : Dev nD × Fin 63) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 63 => (atPos ER (kcell (c, k)) 0 ∅ 0 : sProp 𝕄)) payToks).symm).trans
      (bigSep_mono fun c _ => show _ ⊢ linear c from Entails.of_eq rfl))
    isplitl [Hat]; · iexact Hat
    iexact Htk

/-- Every device's counters and share of the launch's element, at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at the start -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {k l : Fin 31} : Iff (recvCell a k = recvCell b l) (a = b ∧ k = l) :=
  ⟨fun h => ⟨Fin.ext (congrArg (fun g : GSem nD τ sig => g.1.1.val) h), by
    have := congrArg (fun g : GSem nD τ sig => kind g.2) h
    simp only [kind_recv] at this; cases this; rfl⟩, fun ⟨h, h'⟩ => by rw [h, h']⟩
theorem recv_ne_bar {a b : Dev nD} {k : Fin 31} : recvCell a k ≠ barCell b := fun h => by
  have := congrArg (fun g : GSem nD τ sig => kind g.2) h
  simp only [kind_recv] at this; cases this

theorem oweB_bar (d j c : Dev nD) : oweB d j (barCell c) () = if j = c ∧ j ≠ d then 1 else 0 := by
  unfold oweB
  by_cases h : j = d
  · rw [if_pos h, if_neg fun h' => h'.2 h]; rfl
  · rw [if_neg h, tallyAt_apply]
    exact if_congr (by rw [bar_eq_iff]; exact ⟨fun h' => ⟨h'.1.symm, h⟩, fun h' => ⟨h'.1.symm, rfl⟩⟩) rfl rfl
theorem oweC_bar (d c : Dev nD) (k : Fin 31) : oweC d k (barCell c) () = 0 := by
  by_contra h; exact recv_ne_bar (oweC_pos (Nat.pos_iff_ne_zero.mpr h)).symm
theorem oweB_recv (d j c : Dev nD) (k : Fin 31) : oweB d j (recvCell c k) () = 0 := by
  by_contra h; exact recv_ne_bar (oweB_pos (Nat.pos_iff_ne_zero.mpr h))
theorem oweC_recv (d c : Dev nD) (k l : Fin 31) : oweC d l (recvCell c k) () = if l = k ∧ d = dn c k ∧ k.val < c.val then N else 0 := by
  have hd : d.val < 32 := d.isLt
  unfold oweC
  by_cases h : d.val + l.val + 1 < 32
  · rw [if_pos h, tallyAt_apply]
    refine if_congr ?_ rfl rfl
    rw [recv_eq_iff]
    constructor
    · rintro ⟨⟨h1, h2⟩, -⟩
      subst h2; subst h1
      have := up_val h
      exact ⟨rfl, ((around k).left_inv d).symm, by omega⟩
    · rintro ⟨h1, h2, -⟩
      subst h1; subst h2
      exact ⟨⟨((around l).right_inv c).symm, rfl⟩, rfl⟩
  · rw [if_neg h]
    refine (if_neg ?_).symm
    rintro ⟨h1, h2, h3⟩
    subst h1; subst h2
    have := dn_val h3
    have hD : nD = 32 := rfl
    omega

theorem Osig_apply (d : Dev nD) (g : GSem nD τ sig) :
    Osig d 0 g () = (∑ l : Fin 31, oweC d l g ()) + ∑ j : Dev nD, oweB d j g () := by
  unfold Osig Osend
  rw [Pi.add_apply, Finsupp.add_apply, sum_tally_apply, sum_tally_apply, fromN_zero, fromN_zero]

theorem owed_bar (d c : Dev nD) : Osig d 0 (barCell c) () = if d = c then 0 else 1 := by
  rw [Osig_apply, Finset.sum_eq_zero fun l _ => oweC_bar d c l, Nat.zero_add, Finset.sum_eq_single c]
  · rw [oweB_bar]
    by_cases h : d = c
    · rw [if_pos h, if_neg fun h' => h'.2 h.symm]
    · rw [if_neg h, if_pos ⟨rfl, fun h' => h h'.symm⟩]
  · intro j _ hj; rw [oweB_bar, if_neg fun h => hj h.1]
  · intro h; exact absurd (Finset.mem_univ _) h

theorem owed_recv (d c : Dev nD) (k : Fin 31) : Osig d 0 (recvCell c k) () = if d = dn c k then (if k.val < c.val then N else 0) else 0 := by
  rw [Osig_apply, Finset.sum_eq_zero (s := Finset.univ) (f := fun j : Dev nD => oweB d j (recvCell c k) ()) fun j _ => oweB_recv d j c k, Nat.add_zero,
    Finset.sum_eq_single k]
  · rw [oweC_recv]
    by_cases h : d = dn c k
    · rw [if_pos h]; exact if_congr ⟨fun h' => h'.2.2, fun h' => ⟨rfl, h, h'⟩⟩ rfl rfl
    · rw [if_neg h, if_neg fun h' => h h'.2.1]
  · intro l _ hl; rw [oweC_recv, if_neg fun h => hl h.1]
  · intro h; exact absurd (Finset.mem_univ _) h

/-- What every device starts owing. -/
def O₀ (c : Dev nD) : CellTallies nD τ sig Unit := Osig c 0

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same]
  show ∑ d : Dev nD, Osig d 0 (barCell c) () = 31
  rw [Finset.sum_congr rfl fun d _ => owed_bar d c]
  revert c; decide +kernel

theorem launch_recv (c : Dev nD) (k : Fin 31) :
    tallyOn (recvCell c k) (launchCredit (Pipeline.owing O₀) 0 (recvCell c k)) = (tallyAt (recvCell c k) () (if k.val < c.val then N else 0) : CellTallies nD τ sig Unit) := by
  unfold tallyAt; refine congrArg _ (Finsupp.ext fun u => ?_); cases u
  rw [Pipeline.launchCredit_owing, Finsupp.single_eq_same]
  show ∑ d : Dev nD, Osig d 0 (recvCell c k) () = _
  rw [Finset.sum_congr rfl fun d _ => owed_recv d c k,
    Finset.sum_ite_eq' Finset.univ (dn c k) fun _ => if k.val < c.val then N else 0, if_pos (Finset.mem_univ _)]

/-- The semaphores a device starts with credit on. -/
def credSems : Finset (SemLoc sig) := insert (SemLoc.reg barS) (Finset.univ.map ⟨fun k : Fin 31 => SemLoc.dma (recvS k), by decide +kernel⟩)

theorem cred_recv (c : Dev nD) (k : Fin 31) :
    cred (tallyOn (recvCell c k) (launchCredit (Pipeline.owing O₀) 0 (recvCell c k))) ⊢ (recvCred (F := F) c k : sProp 𝕄) := by
  rw [launch_recv]
  unfold recvCred
  by_cases h : k.val < c.val
  · rw [if_pos h, if_pos h]
  · rw [if_neg h, if_neg h]; iintro -; iempintro
theorem creds_recv (c : Dev nD) :
    (bigSep Finset.univ fun k : Fin 31 => cred (tallyOn (recvCell c k) (launchCredit (Pipeline.owing O₀) 0 (recvCell c k))))
      ⊢ (bigSep Finset.univ (recvCred (F := F) c) : sProp 𝕄) :=
  bigSep_mono fun k _ => cred_recv c k

theorem creds (c : Dev nD) :
    (Pipeline.launchCred O₀ c : sProp 𝕄) ⊢ iprop(cred (tallyAt (barCell c) () 31) ∗ bigSep Finset.univ (recvCred (F := F) c)) := by
  unfold Pipeline.launchCred
  refine (bigSep_subset (Finset.subset_univ credSems)).trans ?_
  unfold credSems
  rw [bigSep_insert (by decide +kernel), bigSep_map, launch_bar]
  exact BIClass.sep_mono BIBase.Entails.rfl (creds_recv c)

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ cAny tAny
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ cAny tAny
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every fair execution on the mesh of thirty-two devices ends,
    and every final state has each device's arrays at their computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP]
      · iexact HP
      · iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]
      · iexact Hu
      · iexact HSI)
    (hQ := fun _ h hs => ⟨fun c w => (h c).1 w, sem_eq_zero hs fun c => (h c).2.2⟩)

/-- The rows after the run are what they were. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Scan

end
-- ==== Proof.Ref.lean ====
/-
# The reference's run

The reference takes one trip per row: a row of the argument is read, the running product takes it in, and the product is
written to the same row of the result.  Here is what every buffer holds after the last trip.
-/
module

public import proofs.«01_k».proof.Proof.Gen.ReferenceIdeal
public import Idealize.ShloMosaic.Lib.StableHlo.RunLoop
public import Idealize.ShloMosaic.Lib.StableHlo.RunRead
public import Idealize.ShloMosaic.Lib.Scf.Counter
public import Idealize.ShloMosaic.Lib.Scf.ExitTest
public import Idealize.ShloMosaic.Lib.WordCmp

@[expose] public section

noncomputable section

namespace Cert.ScanRef

open Cert.ReferenceIdeal Cert.ReferenceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The operations as lists -/

/-- What runs before the loop. -/
def preOps : List (HloOp τ sig (Elt F)) :=
  [StableHlo.nullary main_cst (constant S_ .f32 0x3F800000#32),
   StableHlo.unary main_cst main_v0 (broadcastInDim S256 ![] bcast_S_S256 : (⟨S_, .f32⟩ : BufTy).Contents (Elt F) → (⟨S256, .f32⟩ : BufTy).Contents (Elt F)),
   StableHlo.unary main_arg0 main_v1 ((extf .f32 · bitsLt_bf16_f32) : (⟨S8192x256, .bf16⟩ : BufTy).Contents (Elt F) → (⟨S8192x256, .f32⟩ : BufTy).Contents (Elt F)),
   StableHlo.nullary main_cst_0 (constant S_ .f32 0x00000000#32),
   StableHlo.unary main_cst_0 main_v2 (broadcastInDim S8192x256 ![] bcast_S_S8192x256 : (⟨S_, .f32⟩ : BufTy).Contents (Elt F) → (⟨S8192x256, .f32⟩ : BufTy).Contents (Elt F)),
   StableHlo.nullary main_c (constantI S_ 32 0#32),
   StableHlo.unary main_v1 main_v3_0 id,
   StableHlo.unary main_c main_v3_1 id,
   StableHlo.unary main_v0 main_v3_2 id,
   StableHlo.unary main_v2 main_v3_3 id]

/-- What the loop's test runs. -/
def testOps : List (HloOp τ sig (Elt F)) :=
  [StableHlo.nullary main_while0c_c_4 (constantI S_ 32 8192#32),
   StableHlo.binary main_v3_1 main_while0c_c_4 main_while0c_v4 (cmpi .slt : (⟨S_, .i32⟩ : BufTy).Contents (Elt F) → (⟨S_, .i32⟩ : BufTy).Contents (Elt F) → (⟨S_, .i1⟩ : BufTy).Contents (Elt F))]

/-- What one trip runs. -/
def tripOps : List (HloOp τ sig (Elt F)) :=
  [StableHlo.TRef.nullary (.of main_while0b_call0_c : TRef sig ⟨S_, .i32⟩) (constantI S_ 32 0#32),
   StableHlo.TRef.unaryIndexed (.of main_v3_0 : TRef sig ⟨S8192x256, .f32⟩) ![(.of main_v3_1 : TRef sig ⟨S_, .i32⟩), (.of main_while0b_call0_c : TRef sig ⟨S_, .i32⟩)] (.of main_while0b_call0_v0 : TRef sig ⟨S1x256, .f32⟩)
     (fun x i => Host.dynamicSlice S1x256 x (fun k => (i k (Shape.Idx.first h_S_)).toInt) sliceFits_S8192x256_S1x256),
   StableHlo.TRef.reshape (.of main_while0b_call0_v0 : TRef sig ⟨S1x256, .f32⟩) (.of main_while0b_v4 : TRef sig ⟨S256, .f32⟩) (rfl : (.f32 : EltTy) = .f32) shapeCasts_S1x256_S256,
   StableHlo.binary main_v3_2 main_while0b_v4 main_while0b_v5 (mulf : (⟨S256, .f32⟩ : BufTy).Contents (Elt F) → (⟨S256, .f32⟩ : BufTy).Contents (Elt F) → (⟨S256, .f32⟩ : BufTy).Contents (Elt F)),
   StableHlo.TRef.unary (.of main_while0b_v5 : TRef sig ⟨S256, .f32⟩) (.of main_while0b_call1_v0 : TRef sig ⟨S1x256, .f32⟩) (broadcastInDim S1x256 ![1] bcast_S256_S1x256_1),
   StableHlo.TRef.nullary (.of main_while0b_call1_c : TRef sig ⟨S_, .i32⟩) (constantI S_ 32 0#32),
   StableHlo.TRef.binaryIndexed (.of main_v3_3 : TRef sig ⟨S8192x256, .f32⟩) (.of main_while0b_call1_v0 : TRef sig ⟨S1x256, .f32⟩) ![(.of main_v3_1 : TRef sig ⟨S_, .i32⟩), (.of main_while0b_call1_c : TRef sig ⟨S_, .i32⟩)] (.of main_while0b_v6 : TRef sig ⟨S8192x256, .f32⟩)
     (fun x u i => Host.dynamicUpdateSlice x u (fun k => (i k (Shape.Idx.first h_S_)).toInt) updateFits_S8192x256_S1x256),
   StableHlo.nullary main_while0b_c_4 (constantI S_ 32 1#32),
   StableHlo.binary main_v3_1 main_while0b_c_4 main_while0b_v7 (addi : (⟨S_, .i32⟩ : BufTy).Contents (Elt F) → (⟨S_, .i32⟩ : BufTy).Contents (Elt F) → (⟨S_, .i32⟩ : BufTy).Contents (Elt F)),
   StableHlo.unary main_while0b_v7 main_v3_1 id,
   StableHlo.unary main_while0b_v5 main_v3_2 id,
   StableHlo.unary main_while0b_v6 main_v3_3 id]

theorem preOps_sub : (preOps (F := F)).Forall fun op => op.bufs ⊆ tcRefs τ sig := by
  unfold preOps; simp [List.Forall]

theorem tripOps_sub : (tripOps (F := F)).Forall fun op => op.bufs ⊆ tcRefs τ sig := by
  unfold tripOps; simp [List.Forall]

theorem main_eq (c : Dev nD) : main (F := F) c
    = Pipeline.chain (([preOps (F := F)].map fun ops => (seq ops : Prog _ PUnit)) ++ HostLoop.enter 0 :: ([] : List (List (HloOp τ sig (Elt F)))).map fun ops => (seq ops : Prog _ PUnit)) := by
  unfold main preOps; chain_rfl

theorem body_eq : main_while0_body (F := F) = Pipeline.chain ([tripOps (F := F)].map fun ops => (seq ops : Prog _ PUnit)) := by
  unfold main_while0_body fn_dynamic_index_in_dim.body fn_dynamic_update_index_in_dim.body tripOps; chain_rfl

/-! ## One trip -/

/-- A row taken at a word. -/
def rowOf (X : (⟨S8192x256, .f32⟩ : BufTy).Contents (Elt F)) (w : BitVec 32) : (⟨S256, .f32⟩ : BufTy).Contents (Elt F) :=
  shapeCast S256 (Host.dynamicSlice S1x256 X (fun k => ((![fun _ => w, constantI S_ 32 0#32] : Fin 2 → (⟨S_, .i32⟩ : BufTy).Contents (Elt F)) k (Shape.Idx.first h_S_)).toInt) sliceFits_S8192x256_S1x256) shapeCasts_S1x256_S256

/-- A row written at a word. -/
def putRow (O : (⟨S8192x256, .f32⟩ : BufTy).Contents (Elt F)) (p : (⟨S256, .f32⟩ : BufTy).Contents (Elt F)) (w : BitVec 32) : (⟨S8192x256, .f32⟩ : BufTy).Contents (Elt F) :=
  Host.dynamicUpdateSlice O (broadcastInDim S1x256 ![1] bcast_S256_S1x256_1 p) (fun k => ((![fun _ => w, constantI S_ 32 0#32] : Fin 2 → (⟨S_, .i32⟩ : BufTy).Contents (Elt F)) k (Shape.Idx.first h_S_)).toInt) updateFits_S8192x256_S1x256

theorem test_keeps (V : Valuation τ sig (Elt F)) (r : Ref sig .tc) (h : r ∉ [main_while0c_c_4, main_while0c_v4]) :
    after testOps V (Proc.devRef .tc r) = V (Proc.devRef .tc r) :=
  after_unwritten [main_while0c_c_4, main_while0c_v4] rfl h V

theorem trip_x (V : Valuation τ sig (Elt F)) :
    after tripOps V (Proc.devRef .tc main_v3_0) = V (Proc.devRef .tc main_v3_0) := by
  unfold tripOps; after_results_simp_entrywise

theorem trip_arg (V : Valuation τ sig (Elt F)) :
    after tripOps V (Proc.devRef .tc main_arg0) = V (Proc.devRef .tc main_arg0) := by
  unfold tripOps; after_results_simp_entrywise

theorem trip_ctr (V : Valuation τ sig (Elt F)) :
    after tripOps V (Proc.devRef .tc main_v3_1) = addi (V (Proc.devRef .tc main_v3_1) : (⟨S_, .i32⟩ : BufTy).Contents (Elt F)) (constantI S_ 32 1#32) := by
  unfold tripOps; after_results_simp_entrywise
  rfl

theorem trip_prod (V : Valuation τ sig (Elt F)) (w : BitVec 32)
    (hw : V (Proc.devRef .tc main_v3_1) = (fun _ => w : (⟨S_, .i32⟩ : BufTy).Contents (Elt F))) :
    after tripOps V (Proc.devRef .tc main_v3_2)
      = mulf (V (Proc.devRef .tc main_v3_2) : (⟨S256, .f32⟩ : BufTy).Contents (Elt F)) (rowOf (V (Proc.devRef .tc main_v3_0)) w) := by
  unfold tripOps; after_results_simp_entrywise
  rw [hw]
  rfl

theorem trip_out (V : Valuation τ sig (Elt F)) (w : BitVec 32)
    (hw : V (Proc.devRef .tc main_v3_1) = (fun _ => w : (⟨S_, .i32⟩ : BufTy).Contents (Elt F))) :
    after tripOps V (Proc.devRef .tc main_v3_3)
      = putRow (V (Proc.devRef .tc main_v3_3)) (mulf (V (Proc.devRef .tc main_v3_2) : (⟨S256, .f32⟩ : BufTy).Contents (Elt F)) (rowOf (V (Proc.devRef .tc main_v3_0)) w)) w := by
  unfold tripOps; after_results_simp_entrywise
  rw [hw]
  rfl

/-! ## All trips -/

/-- The argument in the wide format. -/
def wide (A : (⟨S8192x256, .bf16⟩ : BufTy).Contents (Elt F)) : (⟨S8192x256, .f32⟩ : BufTy).Contents (Elt F) :=
  extf .f32 A bitsLt_bf16_f32

/-- The counter's word before trip `k`. -/
def word (k : ℕ) : BitVec 32 := Scf.iv 0#32 1#32 k

/-- The running product before trip `k`. -/
def prodAt (A : (⟨S8192x256, .bf16⟩ : BufTy).Contents (Elt F)) : ℕ → (⟨S256, .f32⟩ : BufTy).Contents (Elt F)
  | 0 => broadcastInDim S256 ![] bcast_S_S256 (constant S_ .f32 0x3F800000#32)
  | k + 1 => mulf (prodAt A k) (rowOf (wide A) (word k))

/-- The result so far before trip `k`. -/
def sofar (A : (⟨S8192x256, .bf16⟩ : BufTy).Contents (Elt F)) : ℕ → (⟨S8192x256, .f32⟩ : BufTy).Contents (Elt F)
  | 0 => broadcastInDim S8192x256 ![] bcast_S_S8192x256 (constant S_ .f32 0x00000000#32)
  | k + 1 => putRow (sofar A k) (prodAt A (k + 1)) (word k)

/-- What the buffers hold before trip `k`. -/
structure Holds (A : (⟨S8192x256, .bf16⟩ : BufTy).Contents (Elt F)) (k : ℕ) (V : Valuation τ sig (Elt F)) : Prop where
  arg : V (Proc.devRef .tc main_arg0) = A
  x : V (Proc.devRef .tc main_v3_0) = wide A
  ctr : V (Proc.devRef .tc main_v3_1) = (fun _ => word k : (⟨S_, .i32⟩ : BufTy).Contents (Elt F))
  prod : V (Proc.devRef .tc main_v3_2) = prodAt A k
  out : V (Proc.devRef .tc main_v3_3) = sofar A k

theorem holds_start (V : Valuation τ sig (Elt F)) : Holds (V (Proc.devRef .tc main_arg0)) 0 (after preOps V) where
  arg := by unfold preOps; after_results_simp_entrywise
  x := by unfold preOps; after_results_simp_entrywise; rfl
  ctr := by unfold preOps; after_results_simp_entrywise; unfold word; rw [Scf.iv_zero]; rfl
  prod := by unfold preOps; after_results_simp_entrywise; rfl
  out := by unfold preOps; after_results_simp_entrywise; rfl

theorem Holds.test {A : (⟨S8192x256, .bf16⟩ : BufTy).Contents (Elt F)} {k : ℕ} {V : Valuation τ sig (Elt F)} (h : Holds A k V) :
    Holds A k (after testOps V) where
  arg := (test_keeps V _ (by decide)).trans h.arg
  x := (test_keeps V _ (by decide)).trans h.x
  ctr := (test_keeps V _ (by decide)).trans h.ctr
  prod := (test_keeps V _ (by decide)).trans h.prod
  out := (test_keeps V _ (by decide)).trans h.out

theorem Holds.trip {A : (⟨S8192x256, .bf16⟩ : BufTy).Contents (Elt F)} {k : ℕ} {V : Valuation τ sig (Elt F)} (h : Holds A k V) :
    Holds A (k + 1) (after tripOps V) where
  arg := (trip_arg V).trans h.arg
  x := (trip_x V).trans h.x
  ctr := by
    rw [trip_ctr, h.ctr]
    funext i
    show word k + 1#32 = word (k + 1)
    exact (Scf.iv_succ 0#32 1#32 k).symm
  prod := by rw [trip_prod V (word k) h.ctr, h.x, h.prod]; rfl
  out := by rw [trip_out V (word k) h.ctr, h.x, h.prod, h.out]; rfl

variable (m : (ℓ : Loc nD τ sig) → Buf (Elt F) ℓ) (ρ : Dev nD → PrngReg)

theorem holds_at (c : Dev nD) (k : ℕ) :
    Holds (m ((c.tc : Thread nD τ).loc main_arg0)) k (atTrip testOps [tripOps] (entryContents [preOps] m) k c) := by
  induction k with
  | zero => exact holds_start (launchContents m c)
  | succ k ih => exact ih.test.trip

/-- The test says yes before each of the 8192 trips and no after them. -/
theorem cond_spec : CondSpec (pcfgs (F := F)) defs₀ loops (main_while0_cond (F := F)) testOps [tripOps] (entryContents [preOps] m) 8192 := by
  intro k hk c bd
  have hctr := (holds_at m c k).ctr
  simp only [main_while0_cond, bind_pure]
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  unfold HostLoop.elt; rw [wp_ret]; imodintro
  isplitr
  · ipureintro
    show Iff (IntOp.cmpi .slt (HloOp.result _ (atTrip testOps [tripOps] (entryContents [preOps] m) k c) main_v3_1 HostLoop.idx0)
        (HloOp.result _ (atTrip testOps [tripOps] (entryContents [preOps] m) k c) main_while0c_c_4 HostLoop.idx0) = 1#1) (k < 8192)
    rw [StableHlo.nullary_result_ne _ _ _ _ (by decide), StableHlo.nullary_result, hctr]
    have ht : Scf.trips (0#32) (8192#32) (1#32) = 8192 := by decide
    have := Scf.cmpi_slt_iv_ub_iff (lb := 0#32) (ub := 8192#32) (st := 1#32) main_while0_ok (k := k) (by omega)
    rw [ht] at this
    exact this
  isplitl [Hb]; · iexact Hb
  unfold testOps
  rw [StableHlo.after_cons, StableHlo.after_cons, StableHlo.after_nil]
  iexact Hh

/-- The reference ends with its argument as it was and the products of all its trips in the result. -/
theorem run_ref : θ_run defs (onTc (τ := τ) (main (F := F))) ⟨m, fun _ => 0, ρ⟩ (fun r => ∀ c : Dev nD,
    r.2.mem ((c.tc : Thread nD τ).loc main_v3_3) = sofar (m ((c.tc : Thread nD τ).loc main_arg0)) 8192
    ∧ r.2.mem ((c.tc : Thread nD τ).loc main_arg0) = m ((c.tc : Thread nD τ).loc main_arg0)) := by
  refine (θ_run _ _ _).mono (fun r h c => ?_) (run_loop (pcfgs (F := F)) defs₀ loops main 0 main_while0_cond main_while0_body rfl
    [preOps] [tripOps] [] testOps (.cons preOps_sub .nil) (.cons tripOps_sub .nil) .nil main_eq body_eq 8192 m ρ (cond_spec m))
  have hl := (holds_at m c 8192).test
  exact ⟨(h c main_v3_3 rfl).trans hl.out, (h c main_arg0 rfl).trans hl.arg⟩

end Cert.ScanRef

end
-- ==== Proof.Frames.lean ====
/-
# The three programs run, and leave their arguments alone

The two readings of the kernel have one text, so one run serves both.
-/
module

public import proofs.«01_k».proof.Defs
public import proofs.«01_k».proof.Proof.Gen.Kernel
public import proofs.«01_k».proof.Proof.Run
public import proofs.«01_k».proof.Proof.Ref
public import Idealize.ShloMosaic.Lib.Quiescent

@[expose] public section

noncomputable section

namespace Cert.Scan

open Idealize.ShloMosaic Idealize.SL.Sem

theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
        ∧ r.2.sem = fun _ => 0) :=
  (θ_run Cert.KernelIdeal.defs _ _).mono (fun r h => ⟨fun c => (h.1 c (0 : Fin 2)).trans (finalA_x m ρ c), h.2⟩) (run_main m ρ)

theorem frame_kernel_ideal : Cert.quiescent_KernelIdeal := fun m ρ _ => frame_any m ρ

/-- The two readings' bodies are one text. -/
theorem defs₀_same {F : FTy → Type} [FloatOps F] : Cert.Kernel.defs₀ (F := F) = Cert.KernelIdeal.defs₀ (F := F) := by chain_rfl

theorem defs_same {F : FTy → Type} [FloatOps F] : Cert.Kernel.defs (F := F) = Cert.KernelIdeal.defs (F := F) :=
  congrArg (Pipeline.defs Cert.KernelIdeal.pcfgs) defs₀_same

theorem frame_kernel : Cert.quiescent_Kernel := fun m ρ _ => by
  rw [defs_same]
  exact frame_any (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩) (Cert.ScanRef.run_ref m ρ)

end Cert.Scan

end
-- ==== Proof.Fold.lean ====
/-
# Products down a column

The arithmetic of the claim, over extended reals.  A column of an array is read as a sequence; a doubling step of the scan
joins two neighbouring runs of it, a halving step of the total joins two interleaved ones, and a run of block totals
is the product of everything before the block.
-/
module

public import Idealize.ShloMosaic.Lib.ValueIdxCore
public import Idealize.ShloMosaic.Lib.Pipeline.Value
public import Idealize.ShloMosaic.Lib.KernelVsHost
public import Idealize.ShloMosaic.Lib.IdealHost

@[expose] public section

noncomputable section

namespace Cert.Scan

open Idealize.ShloMosaic
open Idealize.ShloMosaic.ValueIdx (ix2)
open Finset (range Ico)

/-- Column `q` of an array, as a sequence: one past the end. -/
def col {n w : ℕ} (y : (⟨2, ![n, w]⟩ : Shape).Idx → EReal) (q : Fin w) (k : ℕ) : EReal :=
  if h : k < n then y (ix2 ⟨k, h⟩ q) else 1

theorem col_row {n w : ℕ} (y : (⟨2, ![n, w]⟩ : Shape).Idx → EReal) (q : Fin w) (r : Fin n) : col y q r.val = y (ix2 r q) :=
  dif_pos r.isLt

/-- The word of the float one is the number one. -/
theorem one_word : (Scalar.ofBits .f32 0x3F800000#32 : Ideal .f32) = (1 : EReal) := Ideal.ofBits_one_f32

/-! ## The scan -/

section Scan
variable {n w : ℕ} (a : Fin w → ℕ → EReal)

/-- Every entry is the product of the last `s` numbers of its column, up to its own row. -/
def Runs2 (s : ℕ) (y : (⟨2, ![n, w]⟩ : Shape).Idx → EReal) : Prop :=
  ∀ (r : Fin n) (q : Fin w), y (ix2 r q) = ∏ j ∈ Ico (r.val + 1 - s) (r.val + 1), a q j

/-- A doubling step: the entry `s` rows up, or one where there is none, is multiplied in. -/
theorem Runs2.step {s : ℕ} {y z : (⟨2, ![n, w]⟩ : Shape).Idx → EReal} (hs : Runs2 a s y)
    (hz : ∀ (r : Fin n) (q : Fin w), z (ix2 r q) = y (ix2 r q) * (if s ≤ r.val then y (ix2 ⟨r.val - s, by omega⟩ q) else 1)) :
    Runs2 a (s + s) z := by
  intro r q
  rw [hz, hs r q]
  split
  · next hle =>
    rw [hs, mul_comm, show r.val - s + 1 = r.val + 1 - s by omega, show r.val + 1 - s - s = r.val + 1 - (s + s) by omega]
    exact Finset.prod_Ico_consecutive _ (by omega) (by omega)
  · next hlt =>
    rw [mul_one, show r.val + 1 - s = r.val + 1 - (s + s) by omega]

end Scan

/-! ## The total -/

section Total
variable {w : ℕ} (a : Fin w → ℕ → EReal)

/-- Row `r` of `h` is the product of the `n` numbers of its column that lie `h` apart, from `r` on. -/
def Strided (h n : ℕ) (y : (⟨2, ![h, w]⟩ : Shape).Idx → EReal) : Prop :=
  ∀ (r : Fin h) (q : Fin w), y (ix2 r q) = ∏ k ∈ range n, a q (r.val + h * k)

/-- Twice as many numbers half as far apart are the even ones and the odd ones. -/
theorem prod_interleave (f : ℕ → EReal) (r h n : ℕ) :
    (∏ k ∈ range (2 * n), f (r + h * k)) = (∏ k ∈ range n, f (r + (h + h) * k)) * ∏ k ∈ range n, f (r + h + (h + h) * k) := by
  induction n with
  | zero => simp
  | succ n ih =>
    have e₀ : r + h * (2 * n) = r + (h + h) * n := by ring
    have e₁ : r + h * (2 * n + 1) = r + h + (h + h) * n := by ring
    rw [show 2 * (n + 1) = 2 * n + 1 + 1 by omega, Finset.prod_range_succ, Finset.prod_range_succ, ih, Finset.prod_range_succ,
      Finset.prod_range_succ, e₀, e₁, mul_assoc, mul_mul_mul_comm]

/-- A halving step: the lower half of the rows multiplied into the upper. -/
theorem Strided.step {h H n : ℕ} {y : (⟨2, ![H, w]⟩ : Shape).Idx → EReal} (hy : Strided a H n y) (hH : H = h + h)
    (h₀ : (⟨2, ![H, w]⟩ : Shape).Slices ![0, 0] ⟨2, ![h, w]⟩) (h₁ : (⟨2, ![H, w]⟩ : Shape).Slices ![h, 0] ⟨2, ![h, w]⟩) :
    Strided a h (2 * n)
      (mulf (F := Ideal) (φ := .f32) (extractStridedSlice ⟨2, ![h, w]⟩ ![0, 0] y h₀) (extractStridedSlice ⟨2, ![h, w]⟩ ![h, 0] y h₁)) := by
  subst hH
  intro r q
  show extractStridedSlice ⟨2, ![h, w]⟩ ![0, 0] y h₀ (ix2 r q) * extractStridedSlice ⟨2, ![h, w]⟩ ![h, 0] y h₁ (ix2 r q) = _
  rw [extractStridedSlice_apply ![0, 0] y h₀ (ix2 r q) (ix2 ⟨r.val, by omega⟩ q) (by intro b; fin_cases b <;> simp [ix2]),
    extractStridedSlice_apply ![h, 0] y h₁ (ix2 r q) (ix2 ⟨r.val + h, by omega⟩ q) (by intro b; fin_cases b <;> simp [ix2]; omega),
    hy, hy, prod_interleave]

end Total

/-! ## Totals of the blocks before -/

/-- Ones past the `c`-th factor change nothing. -/
theorem prod_masked (f : ℕ → EReal) (c : ℕ) {n : ℕ} (h : c ≤ n) :
    (∏ k ∈ range n, if k < c then f k else 1) = ∏ k ∈ range c, f k := by
  induction n, h using Nat.le_induction with
  | base => exact Finset.prod_congr rfl fun k hk => if_pos (Finset.mem_range.mp hk)
  | succ n hn ih => rw [Finset.prod_range_succ, ih, if_neg (by omega), mul_one]

/-- The products of `c` blocks of `b` numbers are the product of the first `b · c`. -/
theorem prod_blocks (f : ℕ → EReal) (b c : ℕ) :
    (∏ d ∈ range c, ∏ k ∈ range b, f (d * b + k)) = ∏ j ∈ range (c * b), f j := by
  induction c with
  | zero => simp
  | succ c ih => rw [Finset.prod_range_succ, ih, Nat.succ_mul, Finset.prod_range_add]

end Cert.Scan

end
-- ==== Proof.Value.lean ====
/-
# What a device stores

Each of the payloads of a device's body read at an index: the rows scanned are running products of the block's column, the
total is the product of the whole column, and the stored block is the scan times the totals of the devices before.
-/
module

public import proofs.«01_k».proof.Proof.Fold
public import proofs.«01_k».proof.Proof.Body

@[expose] public section

noncomputable section

namespace Cert.Scan

open Cert.KernelIdeal Cert.KernelIdeal.Gen

open Idealize.ShloMosaic
open Idealize.ShloMosaic.TcCoe
open Idealize.ShloMosaic.ValueIdx (ix2)
open Finset (range Ico)

/-! ## The rows -/

/-- The block as it enters the products: its own numbers. -/
theorem pay1_apply (x : Vec Ideal S256x256 .bf16) (i : S256x256.Idx) : k0_pay1 x i = x i := by
  unfold k0_pay1
  show shapeCast S256x256 x shapeCasts_S256x256_S256x256 i = x i
  exact shapeCast_apply x _ i i rfl

/-! ## The scan -/

/-- One doubling step as the body writes it. -/
def dbl (s : BitVec 32) (y : FVec Ideal S256x256 .f32) : FVec Ideal S256x256 .f32 :=
  mulf y (select (cmpi .sge (iota .tc S256x256 32 [0] iota_S256x256_d0_w32) (broadcast S256x256 s))
    (dynamicRotate 0 s none y rotates_S256x256_d0) (broadcast S256x256 (Scalar.ofBits .f32 0x3F800000#32)))

/-- The rows from the `s`-th on. -/
theorem from_row (s : ℕ) (hs : s < 256) (r : Fin 256) (q : Fin 256) :
    cmpi .sge (iota .tc S256x256 32 [0] iota_S256x256_d0_w32) (broadcast S256x256 (BitVec.ofNat 32 s)) (ix2 r q)
      = if s ≤ r.val then 1#1 else 0#1 := by
  show IntOp.cmpi .sge (BitVec.ofNat 32 (0 * 256 + r.val)) (BitVec.ofNat 32 s) = _
  rw [Nat.zero_mul, Nat.zero_add]
  have hr := r.isLt
  have e : ∀ k : ℕ, k < 256 → (BitVec.ofNat 32 k).toInt = (k : ℤ) := fun k hk => by
    rw [BitVec.toInt_eq_toNat_cond, BitVec.toNat_ofNat, Nat.mod_eq_of_lt (by omega), if_pos (by omega)]
  have := e r.val hr
  have := e s hs
  by_cases h : s ≤ r.val <;> simp [IntOp.cmpi, BitVec.sle, *]

/-- A doubling step at an index. -/
theorem dbl_apply (s : ℕ) (h0 : 0 < s) (hs : s < 256) (y : FVec Ideal S256x256 .f32) (r : Fin 256) (q : Fin 256) :
    dbl (BitVec.ofNat 32 s) y (ix2 r q) = (y (ix2 r q) * (if s ≤ r.val then y (ix2 ⟨r.val - s, by omega⟩ q) else 1) : EReal) := by
  show (y (ix2 r q) * Scalar.select (cmpi .sge (iota .tc S256x256 32 [0] iota_S256x256_d0_w32) (broadcast S256x256 (BitVec.ofNat 32 s)) (ix2 r q))
    (dynamicRotate 0 (BitVec.ofNat 32 s) none y rotates_S256x256_d0 (ix2 r q)) (Scalar.ofBits .f32 0x3F800000#32) : EReal) = _
  rw [from_row s hs, one_word]
  by_cases h : s ≤ r.val
  · rw [if_pos h, if_pos h]
    refine congrArg (fun t : EReal => y (ix2 r q) * t) ?_
    refine dynamicRotate_apply (s := S256x256) 0 (BitVec.ofNat 32 s) y rotates_S256x256_d0 (ix2 r q) (ix2 ⟨r.val - s, by omega⟩ q) ?_
    intro b
    have hm : (BitVec.ofNat 32 s).toNat = s := by simp; omega
    have hr := r.isLt
    fin_cases b
    · show r.val - s = if (0 : Fin 2) = 0 then (r.val + 256 - (BitVec.ofNat 32 s).toNat % 256) % 256 else r.val
      rw [if_pos rfl, hm]; omega
    · rfl
  · rw [if_neg h, if_neg h]; rfl

/-- The body's scan is eight doubling steps. -/
theorem scanRows_eq (x : Vec Ideal S256x256 .bf16) :
    scanRows x = dbl 128#32 (dbl 64#32 (dbl 32#32 (dbl 16#32 (dbl 8#32 (dbl 4#32 (dbl 2#32 (dbl 1#32 (k0_pay1 x)))))))) := rfl

theorem runs_dbl {a : Fin 256 → ℕ → EReal} {s : ℕ} {y : FVec Ideal S256x256 .f32} (hy : Runs2 (n := 256) a s y) (h0 : 0 < s) (hs : s < 256) :
    Runs2 (n := 256) a (s + s) (dbl (BitVec.ofNat 32 s) y) :=
  hy.step a fun r q => dbl_apply s h0 hs y r q

/-- The scan at an index: the product of the column down to its row. -/
theorem scanRows_apply (x : Vec Ideal S256x256 .bf16) (r q : Fin 256) :
    scanRows x (ix2 r q) = ∏ j ∈ range (r.val + 1), col (n := 256) x q j := by
  have h1 : Runs2 (n := 256) (col (n := 256) x) 1 (k0_pay1 x) := fun r q => by
    rw [Nat.add_sub_cancel, Nat.Ico_succ_singleton, Finset.prod_singleton, col_row]
    exact pay1_apply x _
  have h := ((((((((runs_dbl h1 (by omega) (by omega)) |> (runs_dbl · (by omega) (by omega))) |> (runs_dbl · (by omega) (by omega)))
    |> (runs_dbl · (by omega) (by omega))) |> (runs_dbl · (by omega) (by omega))) |> (runs_dbl · (by omega) (by omega)))
    |> (runs_dbl · (by omega) (by omega))) |> (runs_dbl · (by omega) (by omega))) r q
  rw [scanRows_eq]
  refine h.trans ?_
  have hr := r.isLt
  rw [show r.val + 1 - (128 + 128) = 0 by omega, Finset.range_eq_Ico]

/-! ## The total -/

/-- A device's total at an index: the product of the whole column. -/
theorem pay2_apply (x : Vec Ideal S256x256 .bf16) (q : Fin 256) :
    k0_pay2 x (ix2 (0 : Fin 1) q) = ∏ j ∈ range 256, col (n := 256) x q j := by
  have h0 : Strided (col (n := 256) x) 256 1 (k0_pay1 x) := fun r q => by
    rw [Finset.prod_range_one, Nat.mul_zero, Nat.add_zero, col_row]
    exact pay1_apply x _
  have h := ((((((((h0.step _ (h := 128) rfl slices_S256x256_o0_0_S128x256 slices_S256x256_o128_0_S128x256).step _ (h := 64) rfl
    slices_S128x256_o0_0_S64x256 slices_S128x256_o64_0_S64x256).step _ (h := 32) rfl
    slices_S64x256_o0_0_S32x256 slices_S64x256_o32_0_S32x256).step _ (h := 16) rfl
    slices_S32x256_o0_0_S16x256 slices_S32x256_o16_0_S16x256).step _ (h := 8) rfl
    slices_S16x256_o0_0_S8x256 slices_S16x256_o8_0_S8x256).step _ (h := 4) rfl
    slices_S8x256_o0_0_S4x256 slices_S8x256_o4_0_S4x256).step _ (h := 2) rfl
    slices_S4x256_o0_0_S2x256 slices_S4x256_o2_0_S2x256).step _ (h := 1) rfl
    slices_S2x256_o0_0_S1x256 slices_S2x256_o1_0_S1x256) 0 q
  unfold k0_pay2
  refine (shapeCast_apply _ shapeCasts_S1x256_S1x256 (ix2 (0 : Fin 1) q) (ix2 (0 : Fin 1) q) rfl).trans (h.trans ?_)
  refine Finset.prod_congr rfl fun k _ => ?_
  congr 1
  show 0 + 1 * k = k
  omega

/-! ## The product of the totals that landed -/

/-- A row of the masked landing buffer. -/
theorem row_slice (y : FVec Ideal S31x256 .f32) (k : ℕ) (h : S31x256.Slices ![k, 0] S1x256) (hk : k < 31) (q : Fin 256) :
    extractStridedSlice S1x256 ![k, 0] y h (ix2 (0 : Fin 1) q) = col (n := 31) y q k := by
  rw [col, dif_pos hk]
  exact extractStridedSlice_apply ![k, 0] y h (ix2 (0 : Fin 1) q) (ix2 ⟨k, hk⟩ q) (by intro b; fin_cases b <;> simp [ix2])

theorem mulf_ix {s : Shape} (x y : FVec Ideal s .f32) (i : s.Idx) : mulf x y i = (x i * y i : EReal) := rfl

/-- The stored block at an index: the scanned row times every row of the masked landing buffer. -/
theorem outOf_apply (v : FVec Ideal S256x256 .f32) (w : BitVec 32) (g : Vec Ideal S31x1x256 .f32) (r q : Fin 256) :
    outOf v w g (ix2 r q) = (v (ix2 r q) * ∏ k ∈ range 31, col (n := 31) (k0_pay8 w g) q k : EReal) := by
  unfold outOf k0_pay34
  refine congrArg (fun t : EReal => v (ix2 r q) * t) ?_
  refine (broadcastTo_apply _ broadcasts_S1x256_S256x256 (ix2 r q) (ix2 (0 : Fin 1) q) (by intro b; fin_cases b <;> rfl)).trans ?_
  unfold k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33
  simp (discharger := omega) only [mulf_ix, row_slice, Finset.prod_range_succ, Finset.prod_range_zero, one_mul, mul_assoc]

end Cert.Scan

end
-- ==== Proof.RefValue.lean ====
/-
# What the reference computes

Row by row the reference keeps a running product: after the last trip, the row `R` of its result is the product of the
argument's rows up to `R`.
-/
module

public import proofs.«01_k».proof.Proof.Fold
public import proofs.«01_k».proof.Proof.Ref

@[expose] public section

noncomputable section

namespace Cert.ScanRef

open Cert.ReferenceIdeal Cert.ReferenceIdeal.Gen

open Idealize.ShloMosaic
open Idealize.ShloMosaic.TcCoe
open Idealize.ShloMosaic.ValueIdx (ix1 ix2)
open Cert.Scan (col one_word)
open Finset (range)

/-- The counter's word before trip `k` is `k`. -/
theorem word_toInt {k : ℕ} (hk : k ≤ 8192) : (word k).toInt = (k : ℤ) := by
  have ht : Scf.trips (0#32) (8192#32) (1#32) = 8192 := by decide
  have h := Scf.toInt_iv (lb := 0#32) (ub := 8192#32) (st := 1#32) main_while0_ok (k := k) (by omega)
  refine h.trans ?_
  show (0 : ℤ) + k * 1 = k
  omega

/-- Where trip `k` reads and writes: row `k`, from the first column. -/
theorem starts_at {F : FTy → Type} [FloatOps F] {k : ℕ} (hk : k ≤ 8192) (a : Fin 2) :
    ((![fun _ => word k, constantI S_ 32 0#32] : Fin 2 → (⟨S_, .i32⟩ : BufTy).Contents (Elt F)) a (Shape.Idx.first h_S_)).toInt
      = ((![k, 0] : Fin 2 → ℕ) a : ℤ) := by
  fin_cases a
  · exact word_toInt hk
  · rfl

theorem row_fits {k : ℕ} (hk : k < 8192) : S8192x256.Slices ![k, 0] S1x256 :=
  ⟨rfl, fun a => by
    fin_cases a
    · show k + 1 ≤ 8192; omega
    · show 0 + 256 ≤ 256; omega⟩

/-- The row taken in trip `k`. -/
theorem rowOf_apply (X : (⟨S8192x256, .f32⟩ : BufTy).Contents (Elt Ideal)) {k : ℕ} (hk : k < 8192) (q : Fin 256) :
    rowOf X (word k) (ix1 q) = X (ix2 (⟨k, hk⟩ : Fin 8192) q) := by
  unfold rowOf
  refine (shapeCast_apply _ shapeCasts_S1x256_S256 (ix1 q) (ix2 (0 : Fin 1) q) ?_).trans ?_
  · rw [Shape.rowMajor_val_two, Shape.rowMajor_val_one]
    show 0 * 256 + q.val = q.val
    omega
  · rw [WordCmp.dynamicSlice_eq_extract S1x256 X _ sliceFits_S8192x256_S1x256 ![k, 0] (row_fits hk) (starts_at hk.le)]
    exact extractStridedSlice_apply ![k, 0] X (row_fits hk) (ix2 (0 : Fin 1) q) (ix2 (⟨k, hk⟩ : Fin 8192) q)
      (by intro b; fin_cases b <;> simp [ix2])

/-- The result after row `k` is written: that row is the new one, the others are as before. -/
theorem putRow_apply (O : (⟨S8192x256, .f32⟩ : BufTy).Contents (Elt Ideal)) (p : (⟨S256, .f32⟩ : BufTy).Contents (Elt Ideal)) {k : ℕ} (hk : k < 8192)
    (R : Fin 8192) (q : Fin 256) :
    putRow O p (word k) (ix2 R q) = if R.val = k then p (ix1 q) else O (ix2 R q) := by
  unfold putRow
  rw [WordCmp.dynamicUpdateSlice_eq_update O _ _ updateFits_S8192x256_S1x256 ![k, 0] (row_fits hk) (starts_at hk.le)]
  unfold updateSlice
  have hq := q.isLt
  by_cases h : R.val = k
  · have hin : ∀ a : Fin 2, (![k, 0] : Fin 2 → ℕ) a ≤ ((ix2 R q : S8192x256.Idx) a).val
        ∧ ((ix2 R q : S8192x256.Idx) a).val < (![k, 0] : Fin 2 → ℕ) a + S1x256.size a := fun a => by
      fin_cases a
      · show k ≤ R.val ∧ R.val < k + 1; omega
      · show 0 ≤ q.val ∧ q.val < 0 + 256; omega
    rw [if_pos h]
    refine (dif_pos hin).trans ?_
    refine broadcastInDim_apply ![1] bcast_S256_S1x256_1 p _ (ix1 q) fun b => ?_
    fin_cases b
    rfl
  · rw [if_neg h]
    refine dif_neg fun hin => h ?_
    have h0 : k ≤ R.val ∧ R.val < k + 1 := hin (0 : Fin 2)
    omega

variable (A : (⟨S8192x256, .bf16⟩ : BufTy).Contents (Elt Ideal))

/-- The running product before trip `k`. -/
theorem prodAt_apply (k : ℕ) (hk : k ≤ 8192) (q : Fin 256) :
    prodAt A k (ix1 q) = ∏ j ∈ range k, col (n := 8192) A q j := by
  induction k with
  | zero =>
    rw [Finset.prod_range_zero, ← one_word]
    rfl
  | succ k ih =>
    rw [Finset.prod_range_succ, ← ih (by omega)]
    show (prodAt A k (ix1 q) * rowOf (wide A) (word k) (ix1 q) : EReal) = _
    rw [rowOf_apply _ (by omega), col, dif_pos (by omega)]
    rfl

/-- The rows written before trip `k`. -/
theorem sofar_apply (k : ℕ) (hk : k ≤ 8192) (R : Fin 8192) (hR : R.val < k) (q : Fin 256) :
    sofar A k (ix2 R q) = ∏ j ∈ range (R.val + 1), col (n := 8192) A q j := by
  induction k with
  | zero => omega
  | succ k ih =>
    show putRow (sofar A k) (prodAt A (k + 1)) (word k) (ix2 R q) = _
    rw [putRow_apply _ _ (by omega)]
    split
    · next h => rw [h, prodAt_apply A (k + 1) hk]
    · next h => exact ih (by omega) (by omega)

end Cert.ScanRef

end
-- ==== Proof.Equation.lean ====
/-
# The kernel computes the reference

A device's stored block, read at an index, is the product of the whole argument's column up to that row; so is the
reference's result.  The block is what the run leaves in the device's result array.
-/
module

public import proofs.«01_k».proof.Defs
public import proofs.«01_k».proof.Proof.Value
public import proofs.«01_k».proof.Proof.RefValue
public import proofs.«01_k».proof.Proof.Run
public import Idealize.ShloMosaic.Lib.Layout

@[expose] public section

noncomputable section

namespace Cert.Scan

open Cert.KernelIdeal Cert.KernelIdeal.Gen

open Idealize.ShloMosaic Idealize.SL.Sem
open Idealize.ShloMosaic.TcCoe
open Idealize.ShloMosaic.ValueIdx (ix2)
open Finset (range)

/-! ## What the run leaves -/

section Left
variable {F : FTy → Type} [FloatOps F]
variable (m : (ℓ : Loc nD τ sig) → Buf (Elt F) ℓ) (ρ : Dev nD → PrngReg)

/-- The result's window is the whole result. -/
theorem read_o (f : main_v1.ty.Contents (Elt F)) : (win0_1.blk (0 : Fin 1)).view.read (Elt F) f = f :=
  Memref.read_access_unit_zero (Elt F) main_v1 (off := fun a => (win0_1.index (0 : Fin 1)) a * main_v1.ty.shape.size a)
    (funext fun a => by fin_cases a <;> decide) (fun a => by fin_cases a <;> decide) f

/-- The argument's window is the whole argument. -/
theorem read_x (f : main_arg0.ty.Contents (Elt F)) : (win0_0.blk (0 : Fin 1)).view.read (Elt F) f = f :=
  Memref.read_access_unit_zero (Elt F) main_arg0 (off := fun a => (win0_0.index (0 : Fin 1)) a * main_arg0.ty.shape.size a)
    (funext fun a => by fin_cases a <;> decide) (fun a => by fin_cases a <;> decide) f

/-- The result array ends holding what the body stored. -/
theorem finalA_out (c : Dev nD) : finalA m ρ c (1 : Fin 2) = outAt m ρ c := by
  refine (read_o (F := F) (finalA m ρ c (1 : Fin 2))).symm.trans ?_
  have hlast : finalA m ρ c (1 : Fin 2) = (dats m ρ 0 c).arrAt (1 : Fin 2) (((0 : Fin 1) : Fin cfg0.N).val + 1) := rfl
  rw [hlast, (dats m ρ 0 c).arrAt_succ (1 : Fin 2) (0 : Fin 1),
    if_pos (show (cfg0.win (1 : Fin 2)).flush (0 : Fin 1) = true by decide)]
  exact View.read_write_univ _ _

theorem xstg_arg (c : Dev nD) : xstg m ρ c = m ((c.tc : Thread nD τ).loc main_arg0) :=
  read_x (m ((c.tc : Thread nD τ).loc main_arg0))

end Left

/-! ## The two computations agree -/

section Agree
variable (m : (ℓ : Loc nD τ sig) → Buf (Elt Ideal) ℓ) (ρ : Dev nD → PrngReg)
variable (A : (⟨2, ![8192, 256]⟩ : Shape).Idx → EReal)

/-- The arguments of the devices are the blocks of the whole argument. -/
def Parts : Prop := ∀ c : Dev nD, m ((c.tc : Thread nD τ).loc main_arg0) = Layout.block ⟨2, ![256, 256]⟩ ⟨2, ![8192, 256]⟩ 0 32 c A

/-- Row `r` of block `c` is row `256 c + r` of the whole. -/
theorem block_row {α : Type} (X : (⟨2, ![8192, 256]⟩ : Shape).Idx → α) (c : Fin 32) (r q : Fin 256) :
    (Layout.block ⟨2, ![256, 256]⟩ ⟨2, ![8192, 256]⟩ 0 32 c X) (ix2 r q) = X (ix2 ⟨c.val * 256 + r.val, by omega⟩ q) := by
  rw [Layout.block_apply]
  exact congrArg X (funext fun a => by fin_cases a <;> rfl)

variable {m A} (h : Parts m A)
include h

/-- A device's column is a stretch of the whole column. -/
theorem col_block (c : Dev nD) (q : Fin 256) {j : ℕ} (hj : j < 256) :
    col (n := 256) (xstg m ρ c) q j = col (n := 8192) A q (c.val * 256 + j) := by
  have hc : c.val < 32 := c.isLt
  rw [xstg_arg, h c, col, col, dif_pos hj, dif_pos (by omega)]
  exact block_row A c ⟨j, hj⟩ q

/-- The total of device `c`. -/
theorem tot_apply (c : Dev nD) (q : Fin 256) :
    tot m ρ c (ix2 (0 : Fin 1) q) = ∏ j ∈ range 256, col (n := 8192) A q (c.val * 256 + j) :=
  (pay2_apply (xstg m ρ c) q).trans (Finset.prod_congr rfl fun j hj => col_block ρ h c q (Finset.mem_range.mp hj))

/-- Row `k` of the masked landing buffer: the total of the device `k + 1` before, where there is one. -/
theorem masked_row (c : Dev nD) (q : Fin 256) {k : ℕ} (hk : k < 31) :
    col (n := 31) (k0_pay8 (w2 c) (landed m ρ c)) q k
      = if k < c.val then ∏ j ∈ range 256, col (n := 8192) A q ((c.val - 1 - k) * 256 + j) else 1 := by
  have hc : c.val < 32 := c.isLt
  rw [col, dif_pos hk, pay8_apply, one_word]
  show (if k < c.val then tot m ρ (dn c ⟨k, hk⟩) (Shape.pair (0 : Fin 1) q) else (1 : EReal)) = _
  split
  · next hlt =>
    have hd : (dn c ⟨k, hk⟩).val = c.val - 1 - k := by show (c.val + (31 - k)) % 32 = _; omega
    rw [show (Shape.pair (0 : Fin 1) q : S1x256.Idx) = ix2 (0 : Fin 1) q from funext fun a => by fin_cases a <;> rfl,
      tot_apply ρ h, hd]
  · rfl

/-- The product of the rows of the masked landing buffer is the product of everything before the block. -/
theorem masked_prod (c : Dev nD) (q : Fin 256) :
    (∏ k ∈ range 31, col (n := 31) (k0_pay8 (w2 c) (landed m ρ c)) q k) = ∏ j ∈ range (c.val * 256), col (n := 8192) A q j := by
  have hc : c.val < 32 := c.isLt
  rw [Finset.prod_congr rfl fun k hk => masked_row ρ h c q (Finset.mem_range.mp hk),
    prod_masked (fun k => ∏ j ∈ range 256, col (n := 8192) A q ((c.val - 1 - k) * 256 + j)) c.val (by omega),
    Finset.prod_range_reflect (fun d => ∏ j ∈ range 256, col (n := 8192) A q (d * 256 + j)) c.val, prod_blocks]

/-- What device `c` stores, at an index. -/
theorem outAt_apply (c : Dev nD) (r q : Fin 256) :
    outAt m ρ c (ix2 r q) = ∏ j ∈ range (c.val * 256 + r.val + 1), col (n := 8192) A q j := by
  have hr := r.isLt
  refine (outOf_apply (scanRows (xstg m ρ c)) (w2 c) (landed m ρ c) r q).trans ?_
  rw [scanRows_apply, masked_prod ρ h c q,
    Finset.prod_congr rfl fun j hj => col_block ρ h c q (by have := Finset.mem_range.mp hj; omega), mul_comm,
    show c.val * 256 + r.val + 1 = c.val * 256 + (r.val + 1) by omega, Finset.prod_range_add _ (c.val * 256) (r.val + 1)]

/-- Device `c` stores its block of the reference's result. -/
theorem outAt_block (c : Dev nD) :
    outAt m ρ c = Layout.block ⟨2, ![256, 256]⟩ ⟨2, ![8192, 256]⟩ 0 32 c (Cert.ScanRef.sofar (F := Ideal) A 8192) := by
  funext i
  have hc : c.val < 32 := c.isLt
  obtain ⟨r, q, rfl⟩ : ∃ (r q : Fin 256), i = ix2 r q := ⟨i 0, i 1, ValueIdx.eq_ix2 i⟩
  have hr := r.isLt
  rw [block_row, outAt_apply ρ h c r q]
  exact (Cert.ScanRef.sofar_apply A 8192 le_rfl ⟨c.val * 256 + r.val, by omega⟩ (by show c.val * 256 + r.val < 8192; omega) q).symm

end Agree

/-! ## The claim -/

/-- Over exact arithmetic the kernel's blocks are the reference's result. -/
theorem algebraic : Cert.algebraic_KernelIdeal_ReferenceIdeal := by
  intro m ρ m' ρ' _ hagree
  refine ⟨Cert.ScanRef.sofar (F := Ideal) (m' (((0 : Dev Cert.ReferenceIdeal.nD).tc : Thread Cert.ReferenceIdeal.nD Cert.ReferenceIdeal.τ).loc Cert.ReferenceIdeal.main_arg0)) 8192, ?_, ?_⟩
  · refine (θ_run Cert.KernelIdeal.defs _ _).mono (fun r hr c => ⟨?_, (hr.1 c (0 : Fin 2)).trans (finalA_x m ρ c)⟩) (run_main m ρ)
    exact ((hr.1 c (1 : Fin 2)).trans (finalA_out m ρ c)).trans (outAt_block ρ hagree c)
  · exact (θ_run Cert.ReferenceIdeal.defs _ _).mono (fun _ hr => hr 0) (Cert.ScanRef.run_ref m' ρ')

end Cert.Scan

end
-- ==== Proof.lean ====
/-
# The certificate
-/
module

public import proofs.«01_k».proof.Defs
public import proofs.«01_k».proof.Proof.Gen.Kernel
public import proofs.«01_k».proof.Proof.Frames
public import proofs.«01_k».proof.Proof.Equation

@[expose] public section

noncomputable section

namespace Cert.Proof

theorem claim : Cert.Claim := ⟨Cert.Kernel.Gen.facts, Cert.KernelIdeal.Gen.facts, Cert.ReferenceIdeal.Gen.facts,
  Cert.Scan.frame_kernel, Cert.Scan.frame_kernel_ideal, Cert.Scan.frame_reference, trivial, Cert.Scan.algebraic⟩

end Cert.Proof

end
